-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_l" .f32 0x3BA3D70A#32 ((200⁻¹ : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096x200 : Shape := ⟨2, ![4096, 200]⟩
abbrev S100000x128 : Shape := ⟨2, ![100000, 128]⟩
abbrev S128x128 : Shape := ⟨2, ![128, 128]⟩
abbrev S128 : Shape := ⟨1, ![128]⟩
abbrev S128x100 : Shape := ⟨2, ![128, 100]⟩
abbrev S100 : Shape := ⟨1, ![100]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) (main_arg2 : FVec F S128x128 .f32) (main_arg3 : FVec F S128 .f32) (main_arg4 : FVec F S128x100 .f32) (main_arg5 : FVec F S100 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S128x128 : Shape := ⟨2, ![128, 128]⟩
abbrev S128 : Shape := ⟨1, ![128]⟩
abbrev S128x100 : Shape := ⟨2, ![128, 100]⟩
abbrev S100 : Shape := ⟨1, ![100]⟩
abbrev S4096x2x100 : Shape := ⟨3, ![4096, 2, 100]⟩
abbrev S4096x128 : Shape := ⟨2, ![4096, 128]⟩
abbrev S128x2x100 : Shape := ⟨3, ![128, 2, 100]⟩
abbrev S3x2x100x128 : Shape := ⟨4, ![3, 2, 100, 128]⟩
abbrev S16x128 : Shape := ⟨2, ![16, 128]⟩
abbrev S3x2 : Shape := ⟨2, ![3, 2]⟩
abbrev S_ : Shape := ⟨0, ![]⟩
abbrev S1x1x100x128 : Shape := ⟨4, ![1, 1, 100, 128]⟩
abbrev S100x128 : Shape := ⟨2, ![100, 128]⟩
abbrev S1x1x100 : Shape := ⟨3, ![1, 1, 100]⟩
abbrev S1x1 : Shape := ⟨2, ![1, 1]⟩
abbrev S16 : Shape := ⟨1, ![16]⟩
abbrev S1x1x1x16 : Shape := ⟨4, ![1, 1, 1, 16]⟩
abbrev S1x16 : Shape := ⟨2, ![1, 16]⟩
abbrev S100x4096 : Shape := ⟨2, ![100, 4096]⟩
abbrev S1x128 : Shape := ⟨2, ![1, 128]⟩
abbrev S100x1 : Shape := ⟨2, ![100, 1]⟩
abbrev S4096x100 : Shape := ⟨2, ![4096, 100]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x100, .f32⟩
  | .hbm, ⟨5, _⟩ => ⟨S100, .f32⟩
  | .hbm, ⟨6, _⟩ => ⟨S4096x2x100, .i32⟩
  | .hbm, ⟨7, _⟩ => ⟨S4096x128, .f32⟩
  | .hbm, ⟨8, _⟩ => ⟨S100x4096, .f32⟩
  | .hbm, ⟨9, _⟩ => ⟨S4096x100, .f32⟩
  | .local .tc .vmem, ⟨0, _⟩ => ⟨S4096x128, .f32⟩
  | .local .tc .vmem, ⟨1, _⟩ => ⟨S128x128, .f32⟩
  | .local .tc .vmem, ⟨2, _⟩ => ⟨S128, .f32⟩
  | .local .tc .vmem, ⟨3, _⟩ => ⟨S128x100, .f32⟩
  | .local .tc .vmem, ⟨4, _⟩ => ⟨S100, .f32⟩
  | .local .tc .vmem, ⟨5, _⟩ => ⟨S100x4096, .f32⟩
  | .local .scVector .vmem, ⟨0, _⟩ => ⟨S128x2x100, .i32⟩
  | .local .scVector .vmem, ⟨1, _⟩ => ⟨S3x2x100x128, .f32⟩
  | .local .scVector .vmem, ⟨2, _⟩ => ⟨S16x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 6, rfl⟩
abbrev main_arg1_scv : Ref sig .scVector := ⟨.hbm, 1, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7_r0 : BitVec 32 := 0#32
  let c0_i32_8_r0 : BitVec 32 := 0#32
  ![v2.toNat, 0, 0]
@[reducible] def k0_t1_loop : Scf.Loop 32 :=
  let c0_i32_0 : BitVec 32 := 0#32
  let c3_i32 : BitVec 32 := 3#32
  let v3 : BitVec 32 := Scalar.addi c0_i32_0 c3_i32
  let c1_i32 : BitVec 32 := 1#32
  ⟨c0_i32_0, v3, c1_i32⟩
def k0_off2 (k0_t1 : Fin k0_t1_loop.trips) : Fin 4 → Nat :=
  let c0_i32_0 : BitVec 32 := 0#32
  let c1_i32 : BitVec 32 := 1#32
  let arg9 : BitVec 32 := Scf.iv c0_i32_0 c1_i32 k0_t1
  let c0_i32_8 : BitVec 32 := 0#32
  let c0_i32_10 : BitVec 32 := 0#32
  let c0_i32_11 : BitVec 32 := 0#32
  ![arg9.toNat, 0, 0, 0]
def k0_off3 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let c0_i32_7 : BitVec 32 := 0#32
  let c0_i32_12 : BitVec 32 := 0#32
  ![arg9.toNat, 0, 0]
def k0_off4 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c0_i32_9 : BitVec 32 := 0#32
  ![arg9.toNat, 0]
def k0_off5 (k0_t1 : Fin k0_t1_loop.trips) : Fin 4 → Nat :=
  let c0_i32_0 : BitVec 32 := 0#32
  let c1_i32 : BitVec 32 := 1#32
  let arg9 : BitVec 32 := Scf.iv c0_i32_0 c1_i32 k0_t1
  let c1_i32_16 : BitVec 32 := 1#32
  let c0_i32_18 : BitVec 32 := 0#32
  let c0_i32_19 : BitVec 32 := 0#32
  ![arg9.toNat, 1, 0, 0]
def k0_off6 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let c1_i32_15 : BitVec 32 := 1#32
  let c0_i32_20 : BitVec 32 := 0#32
  ![arg9.toNat, 1, 0]
def k0_off7 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c1_i32_17 : BitVec 32 := 1#32
  ![arg9.toNat, 1]
@[reducible] def k0_t2_loop : Scf.Loop 32 :=
  let c0_i32_3 : BitVec 32 := 0#32
  let c128_i32_4 : BitVec 32 := 128#32
  let v4 : BitVec 32 := Scalar.addi c0_i32_3 c128_i32_4
  let c1_i32_5 : BitVec 32 := 1#32
  ⟨c0_i32_3, v4, c1_i32_5⟩
def k0_off8 (k0_t2 : Fin k0_t2_loop.trips) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c0_i32_22 : BitVec 32 := 0#32
  let c0_i32_24 : BitVec 32 := 0#32
  let c0_i32_25 : BitVec 32 := 0#32
  ![v14.toNat, 0, 0, 0]
def k0_off9 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c0_i32_23 : BitVec 32 := 0#32
  ![v14.toNat, 0]
@[reducible] def k0_t3_loop : Scf.Loop 32 :=
  let c0_i32_29 : BitVec 32 := 0#32
  let c50_i32 : BitVec 32 := 50#32
  let v30 : BitVec 32 := Scalar.addi c0_i32_29 c50_i32
  let c1_i32_30 : BitVec 32 := 1#32
  ⟨c0_i32_29, v30, c1_i32_30⟩
def k0_off10 (k0_t2 : Fin k0_t2_loop.trips) (k0_t3 : Fin k0_t3_loop.trips) (c0_i32_105 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v173 : Index := Scalar.indexCast v14
  let c0_i32_106 : BitVec 32 := 0#32
  let v174 : Index := Scalar.indexCast c0_i32_106
  let c2_i32_104 : BitVec 32 := 2#32
  let c0_i32_29 : BitVec 32 := 0#32
  let c1_i32_30 : BitVec 32 := 1#32
  let arg10 : BitVec 32 := Scf.iv c0_i32_29 c1_i32_30 k0_t3
  let v171 : BitVec 32 := Scalar.muli c2_i32_104 arg10
  let v172 : BitVec 32 := Scalar.addi v171 c0_i32_105
  let v175 : Index := Scalar.indexCast v172
  let c0_107 : Index := 0#32
  ![v173.toNat, 0, v175.toNat, 0]
def k0_off11 (k0_t2 : Fin k0_t2_loop.trips) (k0_t3 : Fin k0_t3_loop.trips) (c0_i32_109 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v181 : Index := Scalar.indexCast v14
  let c0_i32_110 : BitVec 32 := 0#32
  let v182 : Index := Scalar.indexCast c0_i32_110
  let c2_i32_108 : BitVec 32 := 2#32
  let c0_i32_29 : BitVec 32 := 0#32
  let c1_i32_30 : BitVec 32 := 1#32
  let arg10 : BitVec 32 := Scf.iv c0_i32_29 c1_i32_30 k0_t3
  let v179 : BitVec 32 := Scalar.muli c2_i32_108 arg10
  let v180 : BitVec 32 := Scalar.addi v179 c0_i32_109
  let v183 : Index := Scalar.indexCast v180
  let c16_111 : Index := 16#32
  ![v181.toNat, 0, v183.toNat, 16]
def k0_off12 (k0_t2 : Fin k0_t2_loop.trips) (k0_t3 : Fin k0_t3_loop.trips) (c0_i32_113 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v189 : Index := Scalar.indexCast v14
  let c0_i32_114 : BitVec 32 := 0#32
  let v190 : Index := Scalar.indexCast c0_i32_114
  let c2_i32_112 : BitVec 32 := 2#32
  let c0_i32_29 : BitVec 32 := 0#32
  let c1_i32_30 : BitVec 32 := 1#32
  let arg10 : BitVec 32 := Scf.iv c0_i32_29 c1_i32_30 k0_t3
  let v187 : BitVec 32 := Scalar.muli c2_i32_112 arg10
  let v188 : BitVec 32 := Scalar.addi v187 c0_i32_113
  let v191 : Index := Scalar.indexCast v188
  let c32_115 : Index := 32#32
  ![v189.toNat, 0, v191.toNat, 32]
def k0_off13 (k0_t2 : Fin k0_t2_loop.trips) (k0_t3 : Fin k0_t3_loop.trips) (c0_i32_117 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v197 : Index := Scalar.indexCast v14
  let c0_i32_118 : BitVec 32 := 0#32
  let v198 : Index := Scalar.indexCast c0_i32_118
  let c2_i32_116 : BitVec 32 := 2#32
  let c0_i32_29 : BitVec 32 := 0#32
  let c1_i32_30 : BitVec 32 := 1#32
  let arg10 : BitVec 32 := Scf.iv c0_i32_29 c1_i32_30 k0_t3
  let v195 : BitVec 32 := Scalar.muli c2_i32_116 arg10
  let v196 : BitVec 32 := Scalar.addi v195 c0_i32_117
  let v199 : Index := Scalar.indexCast v196
  let c48_119 : Index := 48#32
  ![v197.toNat, 0, v199.toNat, 48]
def k0_off14 (k0_t2 : Fin k0_t2_loop.trips) (k0_t3 : Fin k0_t3_loop.trips) (c0_i32_121 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v205 : Index := Scalar.indexCast v14
  let c0_i32_122 : BitVec 32 := 0#32
  let v206 : Index := Scalar.indexCast c0_i32_122
  let c2_i32_120 : BitVec 32 := 2#32
  let c0_i32_29 : BitVec 32 := 0#32
  let c1_i32_30 : BitVec 32 := 1#32
  let arg10 : BitVec 32 := Scf.iv c0_i32_29 c1_i32_30 k0_t3
  let v203 : BitVec 32 := Scalar.muli c2_i32_120 arg10
  let v204 : BitVec 32 := Scalar.addi v203 c0_i32_121
  let v207 : Index := Scalar.indexCast v204
  let c64_123 : Index := 64#32
  ![v205.toNat, 0, v207.toNat, 64]
def k0_off15 (k0_t2 : Fin k0_t2_loop.trips) (k0_t3 : Fin k0_t3_loop.trips) (c0_i32_125 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v213 : Index := Scalar.indexCast v14
  let c0_i32_126 : BitVec 32 := 0#32
  let v214 : Index := Scalar.indexCast c0_i32_126
  let c2_i32_124 : BitVec 32 := 2#32
  let c0_i32_29 : BitVec 32 := 0#32
  let c1_i32_30 : BitVec 32 := 1#32
  let arg10 : BitVec 32 := Scf.iv c0_i32_29 c1_i32_30 k0_t3
  let v211 : BitVec 32 := Scalar.muli c2_i32_124 arg10
  let v212 : BitVec 32 := Scalar.addi v211 c0_i32_125
  let v215 : Index := Scalar.indexCast v212
  let c80_127 : Index := 80#32
  ![v213.toNat, 0, v215.toNat, 80]
def k0_off16 (k0_t2 : Fin k0_t2_loop.trips) (k0_t3 : Fin k0_t3_loop.trips) (c0_i32_129 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v221 : Index := Scalar.indexCast v14
  let c0_i32_130 : BitVec 32 := 0#32
  let v222 : Index := Scalar.indexCast c0_i32_130
  let c2_i32_128 : BitVec 32 := 2#32
  let c0_i32_29 : BitVec 32 := 0#32
  let c1_i32_30 : BitVec 32 := 1#32
  let arg10 : BitVec 32 := Scf.iv c0_i32_29 c1_i32_30 k0_t3
  let v219 : BitVec 32 := Scalar.muli c2_i32_128 arg10
  let v220 : BitVec 32 := Scalar.addi v219 c0_i32_129
  let v223 : Index := Scalar.indexCast v220
  let c96_131 : Index := 96#32
  ![v221.toNat, 0, v223.toNat, 96]
def k0_off17 (k0_t2 : Fin k0_t2_loop.trips) (k0_t3 : Fin k0_t3_loop.trips) (c0_i32_133 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v229 : Index := Scalar.indexCast v14
  let c0_i32_134 : BitVec 32 := 0#32
  let v230 : Index := Scalar.indexCast c0_i32_134
  let c2_i32_132 : BitVec 32 := 2#32
  let c0_i32_29 : BitVec 32 := 0#32
  let c1_i32_30 : BitVec 32 := 1#32
  let arg10 : BitVec 32 := Scf.iv c0_i32_29 c1_i32_30 k0_t3
  let v227 : BitVec 32 := Scalar.muli c2_i32_132 arg10
  let v228 : BitVec 32 := Scalar.addi v227 c0_i32_133
  let v231 : Index := Scalar.indexCast v228
  let c112_135 : Index := 112#32
  ![v229.toNat, 0, v231.toNat, 112]
def k0_off18 (k0_t2 : Fin k0_t2_loop.trips) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c1_i32_34 : BitVec 32 := 1#32
  let c0_i32_36 : BitVec 32 := 0#32
  let c0_i32_37 : BitVec 32 := 0#32
  ![v14.toNat, 1, 0, 0]
def k0_off19 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c1_i32_35 : BitVec 32 := 1#32
  ![v14.toNat, 1]
@[reducible] def k0_t4_loop : Scf.Loop 32 :=
  let c0_i32_41 : BitVec 32 := 0#32
  let c50_i32_42 : BitVec 32 := 50#32
  let v39 : BitVec 32 := Scalar.addi c0_i32_41 c50_i32_42
  let c1_i32_43 : BitVec 32 := 1#32
  ⟨c0_i32_41, v39, c1_i32_43⟩
def k0_off20 (k0_t2 : Fin k0_t2_loop.trips) (k0_t4 : Fin k0_t4_loop.trips) (c0_i32_105 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v173 : Index := Scalar.indexCast v14
  let c1_i32_106 : BitVec 32 := 1#32
  let v174 : Index := Scalar.indexCast c1_i32_106
  let c2_i32_104 : BitVec 32 := 2#32
  let c0_i32_41 : BitVec 32 := 0#32
  let c1_i32_43 : BitVec 32 := 1#32
  let arg10 : BitVec 32 := Scf.iv c0_i32_41 c1_i32_43 k0_t4
  let v171 : BitVec 32 := Scalar.muli c2_i32_104 arg10
  let v172 : BitVec 32 := Scalar.addi v171 c0_i32_105
  let v175 : Index := Scalar.indexCast v172
  let c0_107 : Index := 0#32
  ![v173.toNat, 1, v175.toNat, 0]
def k0_off21 (k0_t2 : Fin k0_t2_loop.trips) (k0_t4 : Fin k0_t4_loop.trips) (c0_i32_109 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v181 : Index := Scalar.indexCast v14
  let c1_i32_110 : BitVec 32 := 1#32
  let v182 : Index := Scalar.indexCast c1_i32_110
  let c2_i32_108 : BitVec 32 := 2#32
  let c0_i32_41 : BitVec 32 := 0#32
  let c1_i32_43 : BitVec 32 := 1#32
  let arg10 : BitVec 32 := Scf.iv c0_i32_41 c1_i32_43 k0_t4
  let v179 : BitVec 32 := Scalar.muli c2_i32_108 arg10
  let v180 : BitVec 32 := Scalar.addi v179 c0_i32_109
  let v183 : Index := Scalar.indexCast v180
  let c16_111 : Index := 16#32
  ![v181.toNat, 1, v183.toNat, 16]
def k0_off22 (k0_t2 : Fin k0_t2_loop.trips) (k0_t4 : Fin k0_t4_loop.trips) (c0_i32_113 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v189 : Index := Scalar.indexCast v14
  let c1_i32_114 : BitVec 32 := 1#32
  let v190 : Index := Scalar.indexCast c1_i32_114
  let c2_i32_112 : BitVec 32 := 2#32
  let c0_i32_41 : BitVec 32 := 0#32
  let c1_i32_43 : BitVec 32 := 1#32
  let arg10 : BitVec 32 := Scf.iv c0_i32_41 c1_i32_43 k0_t4
  let v187 : BitVec 32 := Scalar.muli c2_i32_112 arg10
  let v188 : BitVec 32 := Scalar.addi v187 c0_i32_113
  let v191 : Index := Scalar.indexCast v188
  let c32_115 : Index := 32#32
  ![v189.toNat, 1, v191.toNat, 32]
def k0_off23 (k0_t2 : Fin k0_t2_loop.trips) (k0_t4 : Fin k0_t4_loop.trips) (c0_i32_117 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v197 : Index := Scalar.indexCast v14
  let c1_i32_118 : BitVec 32 := 1#32
  let v198 : Index := Scalar.indexCast c1_i32_118
  let c2_i32_116 : BitVec 32 := 2#32
  let c0_i32_41 : BitVec 32 := 0#32
  let c1_i32_43 : BitVec 32 := 1#32
  let arg10 : BitVec 32 := Scf.iv c0_i32_41 c1_i32_43 k0_t4
  let v195 : BitVec 32 := Scalar.muli c2_i32_116 arg10
  let v196 : BitVec 32 := Scalar.addi v195 c0_i32_117
  let v199 : Index := Scalar.indexCast v196
  let c48_119 : Index := 48#32
  ![v197.toNat, 1, v199.toNat, 48]
def k0_off24 (k0_t2 : Fin k0_t2_loop.trips) (k0_t4 : Fin k0_t4_loop.trips) (c0_i32_121 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v205 : Index := Scalar.indexCast v14
  let c1_i32_122 : BitVec 32 := 1#32
  let v206 : Index := Scalar.indexCast c1_i32_122
  let c2_i32_120 : BitVec 32 := 2#32
  let c0_i32_41 : BitVec 32 := 0#32
  let c1_i32_43 : BitVec 32 := 1#32
  let arg10 : BitVec 32 := Scf.iv c0_i32_41 c1_i32_43 k0_t4
  let v203 : BitVec 32 := Scalar.muli c2_i32_120 arg10
  let v204 : BitVec 32 := Scalar.addi v203 c0_i32_121
  let v207 : Index := Scalar.indexCast v204
  let c64_123 : Index := 64#32
  ![v205.toNat, 1, v207.toNat, 64]
def k0_off25 (k0_t2 : Fin k0_t2_loop.trips) (k0_t4 : Fin k0_t4_loop.trips) (c0_i32_125 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v213 : Index := Scalar.indexCast v14
  let c1_i32_126 : BitVec 32 := 1#32
  let v214 : Index := Scalar.indexCast c1_i32_126
  let c2_i32_124 : BitVec 32 := 2#32
  let c0_i32_41 : BitVec 32 := 0#32
  let c1_i32_43 : BitVec 32 := 1#32
  let arg10 : BitVec 32 := Scf.iv c0_i32_41 c1_i32_43 k0_t4
  let v211 : BitVec 32 := Scalar.muli c2_i32_124 arg10
  let v212 : BitVec 32 := Scalar.addi v211 c0_i32_125
  let v215 : Index := Scalar.indexCast v212
  let c80_127 : Index := 80#32
  ![v213.toNat, 1, v215.toNat, 80]
def k0_off26 (k0_t2 : Fin k0_t2_loop.trips) (k0_t4 : Fin k0_t4_loop.trips) (c0_i32_129 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v221 : Index := Scalar.indexCast v14
  let c1_i32_130 : BitVec 32 := 1#32
  let v222 : Index := Scalar.indexCast c1_i32_130
  let c2_i32_128 : BitVec 32 := 2#32
  let c0_i32_41 : BitVec 32 := 0#32
  let c1_i32_43 : BitVec 32 := 1#32
  let arg10 : BitVec 32 := Scf.iv c0_i32_41 c1_i32_43 k0_t4
  let v219 : BitVec 32 := Scalar.muli c2_i32_128 arg10
  let v220 : BitVec 32 := Scalar.addi v219 c0_i32_129
  let v223 : Index := Scalar.indexCast v220
  let c96_131 : Index := 96#32
  ![v221.toNat, 1, v223.toNat, 96]
def k0_off27 (k0_t2 : Fin k0_t2_loop.trips) (k0_t4 : Fin k0_t4_loop.trips) (c0_i32_133 : BitVec 32) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let v229 : Index := Scalar.indexCast v14
  let c1_i32_134 : BitVec 32 := 1#32
  let v230 : Index := Scalar.indexCast c1_i32_134
  let c2_i32_132 : BitVec 32 := 2#32
  let c0_i32_41 : BitVec 32 := 0#32
  let c1_i32_43 : BitVec 32 := 1#32
  let arg10 : BitVec 32 := Scf.iv c0_i32_41 c1_i32_43 k0_t4
  let v227 : BitVec 32 := Scalar.muli c2_i32_132 arg10
  let v228 : BitVec 32 := Scalar.addi v227 c0_i32_133
  let v231 : Index := Scalar.indexCast v228
  let c112_135 : Index := 112#32
  ![v229.toNat, 1, v231.toNat, 112]
def k0_off28 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let c0_i32_45 : BitVec 32 := 0#32
  let v41 : BitVec 1 := Scalar.cmpi .eq c16_i32 c0_i32_45
  let c1_i32_46 : BitVec 32 := 1#32
  let v42 : BitVec 32 := Scalar.select v41 c1_i32_46 c16_i32
  let v43 : BitVec 32 := Scalar.remsi arg9 v42
  let c0_i32_48 : BitVec 32 := 0#32
  let v45 : BitVec 1 := Scalar.cmpi .slt v43 c0_i32_48
  let c0_i32_49 : BitVec 32 := 0#32
  let v46 : BitVec 1 := Scalar.cmpi .slt v42 c0_i32_49
  let v47 : BitVec 1 := Scalar.xori v45 v46
  let c0_i32_47 : BitVec 32 := 0#32
  let v44 : BitVec 1 := Scalar.cmpi .ne v43 c0_i32_47
  let v48 : BitVec 1 := Scalar.andi v47 v44
  let v49 : BitVec 32 := Scalar.addi v43 v42
  let v50 : BitVec 32 := Scalar.select v48 v49 v43
  let v51 : Index := Scalar.indexCast v50
  let c0 : Index := 0#32
  ![v51.toNat, 0]
def k0_off29 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_50 : BitVec 32 := 16#32
  let c0_i32_51 : BitVec 32 := 0#32
  let v55 : BitVec 1 := Scalar.cmpi .eq c16_i32_50 c0_i32_51
  let c1_i32_52 : BitVec 32 := 1#32
  let v56 : BitVec 32 := Scalar.select v55 c1_i32_52 c16_i32_50
  let v57 : BitVec 32 := Scalar.remsi arg9 v56
  let c0_i32_54 : BitVec 32 := 0#32
  let v59 : BitVec 1 := Scalar.cmpi .slt v57 c0_i32_54
  let c0_i32_55 : BitVec 32 := 0#32
  let v60 : BitVec 1 := Scalar.cmpi .slt v56 c0_i32_55
  let v61 : BitVec 1 := Scalar.xori v59 v60
  let c0_i32_53 : BitVec 32 := 0#32
  let v58 : BitVec 1 := Scalar.cmpi .ne v57 c0_i32_53
  let v62 : BitVec 1 := Scalar.andi v61 v58
  let v63 : BitVec 32 := Scalar.addi v57 v56
  let v64 : BitVec 32 := Scalar.select v62 v63 v57
  let v65 : Index := Scalar.indexCast v64
  let c16 : Index := 16#32
  ![v65.toNat, 16]
def k0_off30 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_56 : BitVec 32 := 16#32
  let c0_i32_57 : BitVec 32 := 0#32
  let v69 : BitVec 1 := Scalar.cmpi .eq c16_i32_56 c0_i32_57
  let c1_i32_58 : BitVec 32 := 1#32
  let v70 : BitVec 32 := Scalar.select v69 c1_i32_58 c16_i32_56
  let v71 : BitVec 32 := Scalar.remsi arg9 v70
  let c0_i32_60 : BitVec 32 := 0#32
  let v73 : BitVec 1 := Scalar.cmpi .slt v71 c0_i32_60
  let c0_i32_61 : BitVec 32 := 0#32
  let v74 : BitVec 1 := Scalar.cmpi .slt v70 c0_i32_61
  let v75 : BitVec 1 := Scalar.xori v73 v74
  let c0_i32_59 : BitVec 32 := 0#32
  let v72 : BitVec 1 := Scalar.cmpi .ne v71 c0_i32_59
  let v76 : BitVec 1 := Scalar.andi v75 v72
  let v77 : BitVec 32 := Scalar.addi v71 v70
  let v78 : BitVec 32 := Scalar.select v76 v77 v71
  let v79 : Index := Scalar.indexCast v78
  let c32 : Index := 32#32
  ![v79.toNat, 32]
def k0_off31 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_62 : BitVec 32 := 16#32
  let c0_i32_63 : BitVec 32 := 0#32
  let v83 : BitVec 1 := Scalar.cmpi .eq c16_i32_62 c0_i32_63
  let c1_i32_64 : BitVec 32 := 1#32
  let v84 : BitVec 32 := Scalar.select v83 c1_i32_64 c16_i32_62
  let v85 : BitVec 32 := Scalar.remsi arg9 v84
  let c0_i32_66 : BitVec 32 := 0#32
  let v87 : BitVec 1 := Scalar.cmpi .slt v85 c0_i32_66
  let c0_i32_67 : BitVec 32 := 0#32
  let v88 : BitVec 1 := Scalar.cmpi .slt v84 c0_i32_67
  let v89 : BitVec 1 := Scalar.xori v87 v88
  let c0_i32_65 : BitVec 32 := 0#32
  let v86 : BitVec 1 := Scalar.cmpi .ne v85 c0_i32_65
  let v90 : BitVec 1 := Scalar.andi v89 v86
  let v91 : BitVec 32 := Scalar.addi v85 v84
  let v92 : BitVec 32 := Scalar.select v90 v91 v85
  let v93 : Index := Scalar.indexCast v92
  let c48 : Index := 48#32
  ![v93.toNat, 48]
def k0_off32 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_68 : BitVec 32 := 16#32
  let c0_i32_69 : BitVec 32 := 0#32
  let v97 : BitVec 1 := Scalar.cmpi .eq c16_i32_68 c0_i32_69
  let c1_i32_70 : BitVec 32 := 1#32
  let v98 : BitVec 32 := Scalar.select v97 c1_i32_70 c16_i32_68
  let v99 : BitVec 32 := Scalar.remsi arg9 v98
  let c0_i32_72 : BitVec 32 := 0#32
  let v101 : BitVec 1 := Scalar.cmpi .slt v99 c0_i32_72
  let c0_i32_73 : BitVec 32 := 0#32
  let v102 : BitVec 1 := Scalar.cmpi .slt v98 c0_i32_73
  let v103 : BitVec 1 := Scalar.xori v101 v102
  let c0_i32_71 : BitVec 32 := 0#32
  let v100 : BitVec 1 := Scalar.cmpi .ne v99 c0_i32_71
  let v104 : BitVec 1 := Scalar.andi v103 v100
  let v105 : BitVec 32 := Scalar.addi v99 v98
  let v106 : BitVec 32 := Scalar.select v104 v105 v99
  let v107 : Index := Scalar.indexCast v106
  let c64 : Index := 64#32
  ![v107.toNat, 64]
def k0_off33 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_74 : BitVec 32 := 16#32
  let c0_i32_75 : BitVec 32 := 0#32
  let v111 : BitVec 1 := Scalar.cmpi .eq c16_i32_74 c0_i32_75
  let c1_i32_76 : BitVec 32 := 1#32
  let v112 : BitVec 32 := Scalar.select v111 c1_i32_76 c16_i32_74
  let v113 : BitVec 32 := Scalar.remsi arg9 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let v121 : Index := Scalar.indexCast v120
  let c80 : Index := 80#32
  ![v121.toNat, 80]
def k0_off34 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_80 : BitVec 32 := 16#32
  let c0_i32_81 : BitVec 32 := 0#32
  let v125 : BitVec 1 := Scalar.cmpi .eq c16_i32_80 c0_i32_81
  let c1_i32_82 : BitVec 32 := 1#32
  let v126 : BitVec 32 := Scalar.select v125 c1_i32_82 c16_i32_80
  let v127 : BitVec 32 := Scalar.remsi arg9 v126
  let c0_i32_84 : BitVec 32 := 0#32
  let v129 : BitVec 1 := Scalar.cmpi .slt v127 c0_i32_84
  let c0_i32_85 : BitVec 32 := 0#32
  let v130 : BitVec 1 := Scalar.cmpi .slt v126 c0_i32_85
  let v131 : BitVec 1 := Scalar.xori v129 v130
  let c0_i32_83 : BitVec 32 := 0#32
  let v128 : BitVec 1 := Scalar.cmpi .ne v127 c0_i32_83
  let v132 : BitVec 1 := Scalar.andi v131 v128
  let v133 : BitVec 32 := Scalar.addi v127 v126
  let v134 : BitVec 32 := Scalar.select v132 v133 v127
  let v135 : Index := Scalar.indexCast v134
  let c96 : Index := 96#32
  ![v135.toNat, 96]
def k0_off35 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32_86 : BitVec 32 := 16#32
  let c0_i32_87 : BitVec 32 := 0#32
  let v139 : BitVec 1 := Scalar.cmpi .eq c16_i32_86 c0_i32_87
  let c1_i32_88 : BitVec 32 := 1#32
  let v140 : BitVec 32 := Scalar.select v139 c1_i32_88 c16_i32_86
  let v141 : BitVec 32 := Scalar.remsi arg9 v140
  let c0_i32_90 : BitVec 32 := 0#32
  let v143 : BitVec 1 := Scalar.cmpi .slt v141 c0_i32_90
  let c0_i32_91 : BitVec 32 := 0#32
  let v144 : BitVec 1 := Scalar.cmpi .slt v140 c0_i32_91
  let v145 : BitVec 1 := Scalar.xori v143 v144
  let c0_i32_89 : BitVec 32 := 0#32
  let v142 : BitVec 1 := Scalar.cmpi .ne v141 c0_i32_89
  let v146 : BitVec 1 := Scalar.andi v145 v142
  let v147 : BitVec 32 := Scalar.addi v141 v140
  let v148 : BitVec 32 := Scalar.select v146 v147 v141
  let v149 : Index := Scalar.indexCast v148
  let c112 : Index := 112#32
  ![v149.toNat, 112]
def k0_cond1 (k0_t2 : Fin k0_t2_loop.trips) : BitVec 1 :=
  let c0_i32_3 : BitVec 32 := 0#32
  let c1_i32_5 : BitVec 32 := 1#32
  let arg9 : BitVec 32 := Scf.iv c0_i32_3 c1_i32_5 k0_t2
  let c3_i32_92 : BitVec 32 := 3#32
  let v153 : BitVec 32 := Scalar.addi arg9 c3_i32_92
  let c128_i32_93 : BitVec 32 := 128#32
  let v154 : BitVec 1 := Scalar.cmpi .slt v153 c128_i32_93
  let v155 : BitVec 32 := Scalar.extui v154
  let c0_i32_94 : BitVec 32 := 0#32
  let v156 : BitVec 1 := Scalar.cmpi .ne v155 c0_i32_94
  v156

def k0_off36 (k0_t2 : Fin k0_t2_loop.trips) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c0_i32_106 : BitVec 32 := 0#32
  let c0_i32_108 : BitVec 32 := 0#32
  let c0_i32_109 : BitVec 32 := 0#32
  ![v14.toNat, 0, 0, 0]
def k0_off37 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c3_i32_104 : BitVec 32 := 3#32
  let v171 : BitVec 32 := Scalar.addi arg9 c3_i32_104
  let c0_i32_105 : BitVec 32 := 0#32
  let c0_i32_110 : BitVec 32 := 0#32
  ![v171.toNat, 0, 0]
def k0_off38 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c0_i32_107 : BitVec 32 := 0#32
  ![v14.toNat, 0]
def k0_off39 (k0_t2 : Fin k0_t2_loop.trips) : Fin 4 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c1_i32_114 : BitVec 32 := 1#32
  let c0_i32_116 : BitVec 32 := 0#32
  let c0_i32_117 : BitVec 32 := 0#32
  ![v14.toNat, 1, 0, 0]
def k0_off40 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c3_i32_104 : BitVec 32 := 3#32
  let v171 : BitVec 32 := Scalar.addi arg9 c3_i32_104
  let c1_i32_113 : BitVec 32 := 1#32
  let c0_i32_118 : BitVec 32 := 0#32
  ![v171.toNat, 1, 0]
def k0_off41 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c3_i32_7 : BitVec 32 := 3#32
  let c0_i32_8 : BitVec 32 := 0#32
  let v5 : BitVec 1 := Scalar.cmpi .eq c3_i32_7 c0_i32_8
  let c1_i32_9 : BitVec 32 := 1#32
  let v6 : BitVec 32 := Scalar.select v5 c1_i32_9 c3_i32_7
  let v7 : BitVec 32 := Scalar.remsi arg9 v6
  let c0_i32_11 : BitVec 32 := 0#32
  let v9 : BitVec 1 := Scalar.cmpi .slt v7 c0_i32_11
  let c0_i32_12 : BitVec 32 := 0#32
  let v10 : BitVec 1 := Scalar.cmpi .slt v6 c0_i32_12
  let v11 : BitVec 1 := Scalar.xori v9 v10
  let c0_i32_10 : BitVec 32 := 0#32
  let v8 : BitVec 1 := Scalar.cmpi .ne v7 c0_i32_10
  let v12 : BitVec 1 := Scalar.andi v11 v8
  let v13 : BitVec 32 := Scalar.addi v7 v6
  let v14 : BitVec 32 := Scalar.select v12 v13 v7
  let c1_i32_115 : BitVec 32 := 1#32
  ![v14.toNat, 1]
def k0_cond2 (k0_t2 : Fin k0_t2_loop.trips) : BitVec 1 :=
  let c0_i32_3 : BitVec 32 := 0#32
  let c1_i32_5 : BitVec 32 := 1#32
  let arg9 : BitVec 32 := Scf.iv c0_i32_3 c1_i32_5 k0_t2
  let c1_i32_95 : BitVec 32 := 1#32
  let v157 : BitVec 32 := Scalar.addi arg9 c1_i32_95
  let c16_i32_96 : BitVec 32 := 16#32
  let c0_i32_97 : BitVec 32 := 0#32
  let v158 : BitVec 1 := Scalar.cmpi .eq c16_i32_96 c0_i32_97
  let c1_i32_98 : BitVec 32 := 1#32
  let v159 : BitVec 32 := Scalar.select v158 c1_i32_98 c16_i32_96
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let v169 : BitVec 32 := Scalar.extui v168
  let c0_i32_103 : BitVec 32 := 0#32
  let v170 : BitVec 1 := Scalar.cmpi .ne v169 c0_i32_103
  v170

def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c1_i32_5 : BitVec 32 := 1#32
  let arg9 : BitVec 32 := Scf.iv c0_i32_3 c1_i32_5 k0_t2
  let v171 : BitVec 32 := Scalar.addi v2 arg9
  let c1_i32_104 : BitVec 32 := 1#32
  let v172 : BitVec 32 := Scalar.addi v171 c1_i32_104
  let c16_i32_105 : BitVec 32 := 16#32
  let v173 : BitVec 32 := Scalar.subi v172 c16_i32_105
  v173
def k0_off42 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c1_i32_5 : BitVec 32 := 1#32
  let arg9 : BitVec 32 := Scf.iv c0_i32_3 c1_i32_5 k0_t2
  let v171 : BitVec 32 := Scalar.addi v2 arg9
  let c1_i32_104 : BitVec 32 := 1#32
  let v172 : BitVec 32 := Scalar.addi v171 c1_i32_104
  let c16_i32_105 : BitVec 32 := 16#32
  let v173 : BitVec 32 := Scalar.subi v172 c16_i32_105
  let v174 : BitVec 32 := v173
  let c0_i32_106_r1 : BitVec 32 := 0#32
  ![v174.toNat, 0]
abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S100x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((200⁻¹ : ℝ) : EReal)
  | _ => none
-- ==== ReferenceIdeal.lean ====
abbrev S4096x200 : Shape := ⟨2, ![4096, 200]⟩
abbrev S100000x128 : Shape := ⟨2, ![100000, 128]⟩
abbrev S128x128 : Shape := ⟨2, ![128, 128]⟩
abbrev S128 : Shape := ⟨1, ![128]⟩
abbrev S128x100 : Shape := ⟨2, ![128, 100]⟩
abbrev S100 : Shape := ⟨1, ![100]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x128 : Shape := ⟨2, ![4096, 128]⟩
abbrev S1x128 : Shape := ⟨2, ![1, 128]⟩
abbrev S4096x100 : Shape := ⟨2, ![4096, 100]⟩
abbrev S1x100 : Shape := ⟨2, ![1, 100]⟩

abbrev nBuf : Space → Nat
  | .hbm => 45
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x100, .f32⟩
  | .hbm, ⟨5, _⟩ => ⟨S100, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x128, .f32⟩
  | .hbm, ⟨25, _⟩ => ⟨S4096x200x128, .i1⟩
  | .hbm, ⟨26, _⟩ => ⟨S_, .f32⟩
  | .hbm, ⟨27, _⟩ => ⟨S4096x200x128, .f32⟩
  | .hbm, ⟨28, _⟩ => ⟨S4096x200x128, .f32⟩
  | .hbm, ⟨29, _⟩ => ⟨S_, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S_, .f32⟩
  | .hbm, ⟨39, _⟩ => ⟨S4096x128, .f32⟩
  | .hbm, ⟨40, _⟩ => ⟨S4096x128, .f32⟩
  | .hbm, ⟨41, _⟩ => ⟨S4096x100, .f32⟩
  | .hbm, ⟨42, _⟩ => ⟨S1x100, .f32⟩
  | .hbm, ⟨43, _⟩ => ⟨S4096x100, .f32⟩
  | .hbm, ⟨44, _⟩ => ⟨S4096x100, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩

abbrev nD : Nat := 1
abbrev τ : Topo := Topo.v7x

variable {F : FTy → Type} [FloatOps F]
-- ==== Proof.Words.lean ====
/-
  The offsets the kernel computes with 32-bit words, as plain numbers. A tile walks through its 128 rows; for row `t2` it
  uses slot `t2 % 3` of the ring of gathered embeddings and row `t2 % 16` of the pooled block, and writes the block out
  after every sixteenth row.
-/
module

public import proofs.«01_k».proof.Defs
public import proofs.«01_k».proof.Proof.Gen.KernelIdeal
public import proofs.«01_k».proof.Proof.Gen.KernelIdeal.Skeleton

@[expose] public section

noncomputable section

namespace Cert.Proof.Pool

open Idealize.ShloMosaic Cert.KernelIdeal Cert.KernelIdeal.Gen

/-! ## Trip counts -/

/-- The first loop starts the gathers of three rows. -/
theorem trips1 : k0_t1_loop.trips = 3 := by decide +kernel
/-- The main loop visits 128 rows. -/
theorem trips2 : k0_t2_loop.trips = 128 := by decide +kernel
/-- The loop over the first hundred tokens takes two at a time. -/
theorem trips3 : k0_t3_loop.trips = 50 := by decide +kernel
/-- The loop over the last hundred tokens takes two at a time. -/
theorem trips4 : k0_t4_loop.trips = 50 := by decide +kernel

/-! ## The ring's slot and the pooled block's row -/

/-- The slot of the ring that holds row `t2`'s first hundred embeddings. -/
theorem off8_eq : ∀ t : Fin k0_t2_loop.trips, k0_off8 t = ![t.val % 3, 0, 0, 0] := by decide +kernel
/-- The slot's first semaphore. -/
theorem off9_eq : ∀ t : Fin k0_t2_loop.trips, k0_off9 t = ![t.val % 3, 0] := by decide +kernel
/-- The slot that holds row `t2`'s last hundred embeddings. -/
theorem off18_eq : ∀ t : Fin k0_t2_loop.trips, k0_off18 t = ![t.val % 3, 1, 0, 0] := by decide +kernel
/-- The slot's second semaphore. -/
theorem off19_eq : ∀ t : Fin k0_t2_loop.trips, k0_off19 t = ![t.val % 3, 1] := by decide +kernel
/-- The slot refilled with row `t2 + 3`'s first hundred embeddings. -/
theorem off36_eq : ∀ t : Fin k0_t2_loop.trips, k0_off36 t = ![t.val % 3, 0, 0, 0] := by decide +kernel
/-- Its semaphore. -/
theorem off38_eq : ∀ t : Fin k0_t2_loop.trips, k0_off38 t = ![t.val % 3, 0] := by decide +kernel
/-- The slot refilled with row `t2 + 3`'s last hundred embeddings. -/
theorem off39_eq : ∀ t : Fin k0_t2_loop.trips, k0_off39 t = ![t.val % 3, 1, 0, 0] := by decide +kernel
/-- Its semaphore. -/
theorem off41_eq : ∀ t : Fin k0_t2_loop.trips, k0_off41 t = ![t.val % 3, 1] := by decide +kernel
/-- The row of the pooled block that receives row `t2`'s sum. -/
theorem off28_eq : ∀ t : Fin k0_t2_loop.trips, k0_off28 t = ![t.val % 16, 0] := by decide +kernel
/-- A gather for row `t2 + 3` is started as long as there is such a row. -/
theorem cond1_iff : ∀ t : Fin k0_t2_loop.trips, k0_cond1 t = 1#1 ↔ t.val + 3 < 128 := by decide +kernel
/-- The pooled block is written out after every sixteenth row. -/
theorem cond2_iff : ∀ t : Fin k0_t2_loop.trips, k0_cond2 t = 1#1 ↔ (t.val + 1) % 16 = 0 := by decide +kernel

/-- The token word of the loops that take two tokens at a time. -/
def tokWord (t : Fin k0_t3_loop.trips) (c : BitVec 32) : ℕ :=
  (Scalar.indexCast (Scalar.addi (Scalar.muli 2#32 (Scf.iv 0#32 1#32 t)) c) : Index).toNat

/-- It is twice the trip, plus the token's place in the pair. -/
theorem tokWord_eq : ∀ (t : Fin k0_t3_loop.trips) (u : Fin 2), tokWord t (BitVec.ofNat 32 u.val) = 2 * t.val + u.val := by
  decide +kernel

/-- The offsets of a load from the ring. -/
theorem ringOff (t : Fin k0_t2_loop.trips) (n : Fin k0_t3_loop.trips) (u : Fin 2) (j l : ℕ) :
    (![k0_off8 t 0, j, tokWord n (BitVec.ofNat 32 u.val), l] : Fin 4 → ℕ) = ![t.val % 3, j, 2 * n.val + u.val, l] := by
  rw [off8_eq, tokWord_eq]; rfl

/-- The offsets of a load from, or a store to, the pooled block. -/
theorem rowOff (t : Fin k0_t2_loop.trips) (l : ℕ) : (![k0_off28 t 0, l] : Fin 2 → ℕ) = ![t.val % 16, l] := by
  rw [off28_eq]; rfl

/-- The first of a tile's 128 rows. -/
def base (i : grid0.Coords) : ℕ := 256 * (i 1).val + 128 * (i 0).val

/-- The rows the block is written out to. -/
theorem off42_eq : ∀ (i : grid0.Coords) (t : Fin k0_t2_loop.trips), (t.val + 1) % 16 = 0 →
    k0_off42 i t = ![base i + (t.val - 15), 0] := by
  have h : ∀ (a : Fin 2) (b : Fin 16) (t : Fin k0_t2_loop.trips), (t.val + 1) % 16 = 0 →
      (Scalar.subi (Scalar.addi (Scalar.addi (Scalar.muli (Scalar.addi (Scalar.muli (BitVec.ofNat 32 b.val) 2#32) (BitVec.ofNat 32 a.val)) 128#32)
        (Scf.iv 0#32 1#32 t)) 1#32) 16#32).toNat = 256 * b.val + 128 * a.val + (t.val - 15) := by decide +kernel
  intro i t ht
  have h' := h (i 0) (i 1) t ht
  show (![_, 0] : Fin 2 → ℕ) = _
  exact congrArg (fun n => (![n, 0] : Fin 2 → ℕ)) h'

/-- The loads from the ring are the printed ones. -/
example (t : Fin k0_t2_loop.trips) (n : Fin k0_t3_loop.trips) : k0_off10 t n 1#32 = ![t.val % 3, 0, 2 * n.val + 1, 0] := ringOff t n 1 0 0
example (t : Fin k0_t2_loop.trips) (n : Fin k0_t4_loop.trips) : k0_off27 t n 1#32 = ![t.val % 3, 1, 2 * n.val + 1, 112] := ringOff t n 1 1 112
example (t : Fin k0_t2_loop.trips) : k0_off31 t = ![t.val % 16, 48] := rowOff t 48

end Cert.Proof.Pool

end
-- ==== Proof.Common.lean ====
/-
  What the proof of the pooling kernel is written with: the program as a SparseCore launch, the buffers a tile works on,
  and the sums of embeddings it computes, as functions of the token array and the embedding table.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.ShareLeaves
public import Idealize.ShloMosaic.Lib.ValueLayout
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none
abbrev UH : Type := URounds (GSem nD τ sig) ℕ

/-! ## Places of a tile -/

/-- The SparseCore of a pair of grid coordinates. -/
abbrev cV (L : grid0.Coords) : Fin τ.nSC := (L 0).castLE hcore0
/-- The vector subcore of a pair of grid coordinates. -/
abbrev jV (L : grid0.Coords) : Fin τ.nSub := (L 1).castLE hsub0

/-- The token array, as a tile names it. -/
abbrev xM : Memref sig .scVector .hbm S4096x2x100 .i32 := Memref.whole main_v0_scv
/-- The embedding table, as a tile names it. -/
abbrev tM : Memref sig .scVector .hbm S100000x128 .f32 := Memref.whole main_arg1_scv
/-- The array of pooled rows, as a tile names it. -/
abbrev oM : Memref sig .scVector .hbm S4096x128 .f32 := Memref.whole main_v1_scv
/-- The tile's 128 rows of tokens. -/
abbrev iM : Memref sig .scVector .vmem S128x2x100 .i32 := Memref.whole cc0_scratch0
/-- The tile's ring of gathered embeddings. -/
abbrev bM : Memref sig .scVector .vmem S3x2x100x128 .f32 := Memref.whole cc0_scratch1
/-- The tile's block of sixteen pooled rows. -/
abbrev aM : Memref sig .scVector .vmem S16x128 .f32 := Memref.whole cc0_scratch2

/-- Half a slot of the ring, as the gathers and the waits name it. -/
abbrev slotM (off : Fin 4 → ℕ) (h : ∀ a, off a + S1x1x100x128.size a ≤ S3x2x100x128.size a) : Memref sig .scVector .vmem S100x128 .f32 :=
  (bM.slice (Rect.unit (s := S3x2x100x128) off S1x1x100x128.size h) (fun _ => rfl)).squeeze S100x128 squeezes_S1x1x100x128_S100x128
/-- A hundred tokens of a row. -/
abbrev listM (off : Fin 3 → ℕ) (h : ∀ a, off a + S1x1x100.size a ≤ S128x2x100.size a) : Memref sig .scVector .vmem S100 .i32 :=
  (iM.slice (Rect.unit (s := S128x2x100) off S1x1x100.size h) (fun _ => rfl)).squeeze S100 squeezes_S1x1x100_S100
/-- The table, as the gathers name it. -/
abbrev tableM : Memref sig .scVector .hbm S100000x128 .f32 :=
  tM.slice (Rect.unit (s := S100000x128) ![0, 0] S100000x128.size inb_S100000x128_S100000x128_0_0) (fun _ => rfl)
/-- The semaphore of half a slot. -/
abbrev semM (off : Fin 2 → ℕ) (h : ∀ a, off a + S1x1.size a ≤ S3x2.size a) : DmaSem sig :=
  ((cc0_scratch3.slice (Rect.unit (s := S3x2) off S1x1.size h)).squeeze S_ squeezes_S1x1_S_).sem

/-- The semaphore of half `j` of slot `p`. -/
def cell (p : Fin 3) (j : Fin 2) : DmaSem sig := ⟨2 * p.val + j.val, by show _ < 14; omega⟩

theorem semM_eq : ∀ (p : Fin 3) (j : Fin 2) (h : ∀ a, (![p.val, j.val] : Fin 2 → ℕ) a + S1x1.size a ≤ S3x2.size a),
    semM ![p.val, j.val] h = cell p j := by decide +kernel

/-- The elements of half `j` of slot `p`. -/
def slotSet (p : Fin 3) (j : Fin 2) : Finset S3x2x100x128.Idx :=
  Finset.univ.filter fun x => (x 0).val = p.val ∧ (x 1).val = j.val

theorem mem_slotSet {p : Fin 3} {j : Fin 2} {x : S3x2x100x128.Idx} : x ∈ slotSet p j ↔ (x 0).val = p.val ∧ (x 1).val = j.val := by
  simp [slotSet]

/-- Half a slot's elements, placed in the ring. -/
theorem slotM_emb (p : Fin 3) (j : Fin 2) (h) (t : Fin 100) (l : Fin 128) :
    (slotM ![p.val, j.val, 0, 0] h).view.emb (ValueIdx.ix2 t l) = (ValueIdx.ix4 p j t l : S3x2x100x128.Idx) := by
  have e : (slotM ![p.val, j.val, 0, 0] h).view.emb (ValueIdx.ix2 t l)
      = (Rect.unit (s := S3x2x100x128) ![p.val, j.val, 0, 0] S1x1x100x128.size h).emb
          (ValueIdx.ix4 (⟨0, Nat.one_pos⟩ : Fin 1) (⟨0, Nat.one_pos⟩ : Fin 1) t l) := by
    exact congrArg (fun z => (Rect.unit (s := S3x2x100x128) ![p.val, j.val, 0, 0] S1x1x100x128.size h).emb z)
      (ValueIdx.reshapeEquiv_ix2_11ab (a := 100) (b := 128) squeezes_S1x1x100x128_S100x128.numel_eq t l)
  rw [e]
  funext a; refine Fin.ext ?_
  rw [ValueKit.rect_emb_unit_val]
  match a with
  | ⟨0, _⟩ => rfl
  | ⟨1, _⟩ => rfl
  | ⟨2, _⟩ => exact Nat.zero_add _
  | ⟨3, _⟩ => exact Nat.zero_add _

/-- Half a slot is the elements of that half. -/
theorem slotM_set (p : Fin 3) (j : Fin 2) (h) : (slotM ![p.val, j.val, 0, 0] h).view.set = slotSet p j := by
  ext x
  rw [mem_slotSet]
  constructor
  · intro hx
    obtain ⟨y, -, rfl⟩ := Finset.mem_map.mp hx
    obtain ⟨t, l, rfl⟩ : ∃ t l, y = ValueIdx.ix2 t l := ⟨_, _, ValueIdx.eq_ix2 y⟩
    rw [slotM_emb]; exact ⟨rfl, rfl⟩
  · rintro ⟨h0, h1⟩
    obtain ⟨a, b, c, d, rfl⟩ : ∃ (a : Fin 3) (b : Fin 2) (c : Fin 100) (d : Fin 128), x = ValueIdx.ix4 a b c d :=
      ⟨_, _, _, _, ValueIdx.eq_ix4 (n0 := 3) (n1 := 2) (n2 := 100) (n3 := 128) x⟩
    have e0 : a = p := Fin.ext h0
    have e1 : b = j := Fin.ext h1
    subst e0 e1
    exact Finset.mem_map.mpr ⟨ValueIdx.ix2 c d, Finset.mem_univ _, slotM_emb _ _ _ c d⟩

/-- A row's hundred tokens, placed in the tile's array of tokens. -/
theorem listM_emb (b : Fin 128) (j : Fin 2) (h) (t : Fin 100) :
    (listM ![b.val, j.val, 0] h).view.emb (ValueIdx.ix1 t) = (ValueIdx.ix3 b j t : S128x2x100.Idx) := by
  have e : (listM ![b.val, j.val, 0] h).view.emb (ValueIdx.ix1 t)
      = (Rect.unit (s := S128x2x100) ![b.val, j.val, 0] S1x1x100.size h).emb
          (ValueIdx.ix3 (⟨0, Nat.one_pos⟩ : Fin 1) (⟨0, Nat.one_pos⟩ : Fin 1) t) := by
    refine congrArg (fun z => (Rect.unit (s := S128x2x100) ![b.val, j.val, 0] S1x1x100.size h).emb z)
      (Shape.reshapeEquiv_eq_of_rowMajor squeezes_S1x1x100_S100.numel_eq ?_)
    rw [Shape.rowMajor_val_three, Shape.rowMajor_val_one]
    show (0 * 1 + 0) * 100 + t.val = t.val
    omega
  rw [e]
  funext a; refine Fin.ext ?_
  rw [ValueKit.rect_emb_unit_val]
  match a with
  | ⟨0, _⟩ => rfl
  | ⟨1, _⟩ => rfl
  | ⟨2, _⟩ => exact Nat.zero_add _

/-- The table as the gathers name it, element by element. -/
theorem tableM_emb (x : S100000x128.Idx) : tableM.view.emb x = x := by
  have e : tableM.view.emb x = (Rect.unit (s := S100000x128) ![0, 0] S100000x128.size inb_S100000x128_S100000x128_0_0).emb x := rfl
  rw [e]
  funext a; refine Fin.ext ?_
  rw [ValueKit.rect_emb_unit_val]
  match a with
  | ⟨0, _⟩ => exact Nat.zero_add _
  | ⟨1, _⟩ => exact Nat.zero_add _

theorem tableM_set : tableM.view.set = Finset.univ :=
  Finset.eq_univ_iff_forall.mpr fun x => Finset.mem_map.mpr ⟨x, Finset.mem_univ _, tableM_emb x⟩

/-! ## The values -/

section Values
variable [FloatOps F]

/-- Token `k` of row `r`. -/
def tokAt (X : S4096x2x100.Idx → BitVec 32) (r k : ℕ) : ℕ :=
  (X (ValueIdx.ix3 ⟨r % 4096, Nat.mod_lt _ (by omega)⟩ ⟨k / 100 % 2, Nat.mod_lt _ (by omega)⟩ ⟨k % 100, Nat.mod_lt _ (by omega)⟩)).toNat

omit [FloatOps F] in
/-- Entry `l` of embedding `n`. -/
def embAt (E : S100000x128.Idx → F .f32) (n l : ℕ) : F .f32 :=
  E (ValueIdx.ix2 ⟨n % 100000, Nat.mod_lt _ (by omega)⟩ ⟨l % 128, Nat.mod_lt _ (by omega)⟩)

/-- The sum of the first `n` tokens' embeddings of row `r`, at entry `l`: from zero, one token after another. -/
def accum (X : S4096x2x100.Idx → BitVec 32) (E : S100000x128.Idx → F .f32) (r l : ℕ) : ℕ → F .f32
  | 0 => Scalar.ofBits .f32 0x00000000#32
  | n + 1 => FloatOps.addf (accum X E r l n) (embAt E (tokAt X r n) l)

/-- The pooled rows: the sums over all 200 tokens. -/
def pooled (X : S4096x2x100.Idx → BitVec 32) (E : S100000x128.Idx → F .f32) : S4096x128.Idx → F .f32 :=
  fun x => accum X E (x 0).val (x 1).val 200

omit [FloatOps F] in
/-- A slot of the ring that holds row `r`'s embeddings. -/
def slotVal (X : S4096x2x100.Idx → BitVec 32) (E : S100000x128.Idx → F .f32) (r : ℕ) : S3x2x100x128.Idx → F .f32 :=
  fun x => embAt E (tokAt X r (100 * (x 1).val + (x 2).val)) (x 3).val

/-- The tile's rows of tokens. -/
def tileToks (X : S4096x2x100.Idx → BitVec 32) (L : grid0.Coords) : S128x2x100.Idx → BitVec 32 :=
  fun x => X (ValueIdx.ix3 ⟨(base L + (x 0).val) % 4096, Nat.mod_lt _ (by omega)⟩ (x 1) (x 2))

/-- Sixteen entries of one token's embedding, as a load from the ring reads them. -/
def chunk (X : S4096x2x100.Idx → BitVec 32) (E : S100000x128.Idx → F .f32) (r k l : ℕ) : Vec F S1x1x1x16 .f32 :=
  fun y => embAt E (tokAt X r k) (l + (y 3).val)

/-- Sixteen entries of a running sum. -/
def accs (X : S4096x2x100.Idx → BitVec 32) (E : S100000x128.Idx → F .f32) (r l n : ℕ) : FVec F S16 .f32 :=
  fun y => accum X E r (l + (y 0).val) n

/-- One token more. -/
theorem accs_step (X : S4096x2x100.Idx → BitVec 32) (E : S100000x128.Idx → F .f32) (r l n : ℕ) :
    addf (accs X E r l n) (shapeCast S16 (chunk X E r n l) shapeCasts_S1x1x1x16_S16) = accs X E r l (n + 1) := by
  funext y
  show FloatOps.addf (accum X E r (l + (y 0).val) n) (chunk X E r n l (Shape.reshapeEquiv _ y)) = _
  have e : Shape.reshapeEquiv shapeCasts_S1x1x1x16_S16 y
      = (ValueIdx.ix4 (⟨0, Nat.one_pos⟩ : Fin 1) (⟨0, Nat.one_pos⟩ : Fin 1) (⟨0, Nat.one_pos⟩ : Fin 1) (y 0) : S1x1x1x16.Idx) := by
    refine Shape.reshapeEquiv_eq_of_rowMajor _ ?_
    rw [Shape.rowMajor_val_four, Shape.rowMajor_val_one]
    show ((0 * 1 + 0) * 1 + 0) * 16 + (y 0).val = (y 0).val
    omega
  exact congrArg (fun z => FloatOps.addf (accum X E r (l + (y 0).val) n) (chunk X E r n l z)) e

end Values

end Cert.Proof.Pool

end
-- ==== Proof.Slots.lean ====
/-
  The ring of gathered embeddings: three slots of two halves, each half filled by one indirect gather of a hundred table
  rows. Half a slot is idle, in flight with a row of tokens, or filled; a gather starts from an idle half and its wait ends
  with a filled one. Each half keeps its own read share of the table and of the tile's tokens.
-/
module

public import proofs.«01_k».proof.Proof.Common

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The resource algebra: the handshakes' rounds, the windows' rounds, the transfers' counters -/

abbrev UK : Type := URounds (GSem nD τ sig) Unit
abbrev UU : Type := UH × (UK × Counters)

local notation "𝕄" => MT nD τ sig (HIx 1) (Elt F) ℕ UU ℕ

/-- The thread of a tile. -/
abbrev thr (d : Dev nD) (L : grid0.Coords) : Thread nD τ := V d (cV L) (jV L)

variable (d : Dev nD) (L : grid0.Coords) (tq : PosShare TreeShare)
variable (X : S4096x2x100.Idx → BitVec 32) (E : S100000x128.Idx → F .f32)

/-! ## States of half a slot -/

/-- Which of the eight read shares is half `j` of slot `p`'s. -/
def shareIx (p : Fin 3) (j : Fin 2) : Fin (2 ^ 3) := ⟨2 * p.val + j.val, by show _ < 8; omega⟩

/-- A half's read share of the table. -/
abbrev TabSh (p : Fin 3) (j : Fin 2) : sProp 𝕄 :=
  (tM.view.loc (thr d L) : Loc nD τ sig) ↦{leaf 3 tq (shareIx p j)} (E : Buf (Elt F) (tM.view.loc (thr d L)))
/-- A half's read share of the tile's tokens. -/
abbrev TokSh (p : Fin 3) (j : Fin 2) : sProp 𝕄 :=
  (iM.view.loc (thr d L) : Loc nD τ sig) ↦{leaf 3 fullShare (shareIx p j)} (tileToks X L : Buf (Elt F) (iM.view.loc (thr d L)))
/-- A half's elements of the ring. -/
abbrev SlotPts (p : Fin 3) (j : Fin 2) (f : S3x2x100x128.Idx → F .f32) : sProp 𝕄 :=
  (bM.view.loc (thr d L) : Loc nD τ sig) ↦[slotSet p j]{fullShare} (f : Buf (Elt F) (bM.view.loc (thr d L)))

/-- A half that holds nothing in particular. -/
def Idle (p : Fin 3) (j : Fin 2) : sProp 𝕄 :=
  iprop(TabSh d L tq E p j ∗ TokSh d L X p j ∗ (∃ f, SlotPts d L p j f) ∗ semVal (thr d L, SemLoc.dma (cell p j)) 0)
/-- A half that holds half a row's embeddings. -/
def Filled (p : Fin 3) (j : Fin 2) (r : ℕ) : sProp 𝕄 :=
  iprop(TabSh d L tq E p j ∗ TokSh d L X p j ∗ SlotPts d L p j (slotVal X E r))
/-- What one gather credits its semaphore with. -/
def NB : ℕ := (slotM ![0, 0, 0, 0] (by decide)).view.dmaCredit
/-- A half whose gather is under way. -/
def InFlight (p : Fin 3) (j : Fin 2) (r : ℕ) : sProp 𝕄 :=
  Transfers.Flight countersEmb (thr d L) (.dma (cell p j)) (default : HIx 1) NB (Filled d L tq X E p j r)

theorem NB_rows (p : Fin 3) (j : Fin 2) (h) : ∀ g : S100000x128.Gathers 0 S100x128,
    ∑ i, ((slotM ![p.val, j.val, 0, 0] h).slice (S100x128.rowRect g.axis' i) (S100x128.stride_rowRect g.axis' i)).view.dmaCredit = NB := by
  revert h; revert p j; decide +kernel

theorem NB_whole (p : Fin 3) (j : Fin 2) (h) : (slotM ![p.val, j.val, 0, 0] h).view.dmaCredit = NB := rfl

/-- The tokens of a list are below the table's height. -/
theorem list_inb (hX : ∀ x, (X x).toNat < 100000) (b : Fin 128) (j : Fin 2) (h) :
    ∀ x, ((listM ![b.val, j.val, 0] h).view.read (Elt F) (tileToks X L) x).toNat
      < S100000x128.size gathers_S100000x128_S100x128.axis := by
  intro x
  exact hX _

/-- What a gather leaves in its half is the half row's embeddings. -/
theorem gathered (hX : ∀ x, (X x).toNat < 100000) (p : Fin 3) (j : Fin 2) (b : Fin 128) (h h' hn hin)
    (f : S3x2x100x128.Idx → F .f32) :
    ∀ x ∈ slotSet p j,
      ((slotM ![p.val, j.val, 0, 0] h).view.write (Elt F) f
        (SparseCore.gatherPayload gathers_S100000x128_S100x128 (tableM.view.read (Elt F) E)
          (SparseCore.rows ((listM ![b.val, j.val, 0] h').view.read (Elt F) (tileToks X L)) hn hin)) Finset.univ) x
      = slotVal X E (base L + b.val) x := by
  intro x hx
  rw [mem_slotSet] at hx
  obtain ⟨h0, h1⟩ := hx
  obtain ⟨a, b', t, l, rfl⟩ : ∃ (a : Fin 3) (b : Fin 2) (c : Fin 100) (d : Fin 128), x = ValueIdx.ix4 a b c d :=
    ⟨_, _, _, _, ValueIdx.eq_ix4 (n0 := 3) (n1 := 2) (n2 := 100) (n3 := 128) x⟩
  have e0 : a = p := Fin.ext h0
  have e1 : b' = j := Fin.ext h1
  subst e0 e1
  refine (congrArg _ (slotM_emb a b' h t l).symm).trans ?_
  refine (View.write_emb_of_mem _ _ (Finset.mem_univ _)).trans ?_
  refine (cast_eq _ _).trans ?_
  show tableM.view.read (Elt F) E (gathers_S100000x128_S100x128.idx _ (ValueIdx.ix2 t l)) = _
  refine ((View.read_apply _ _).trans (cast_eq _ _)).trans ?_
  rw [tableM_emb]
  have hbase : base L + b.val < 4096 := by
    have h0 : (L 0).val < 2 := (L 0).isLt
    have h1 : (L 1).val < 16 := (L 1).isLt
    have := b.isLt
    unfold base; omega
  have hrow : ((listM ![b.val, b'.val, 0] h').view.read (Elt F) (tileToks X L)
      (S100.rowMajor.symm (Fin.cast hn.symm (ValueIdx.ix2 t l gathers_S100000x128_S100x128.axis')))).toNat
      = tokAt X (base L + b.val) (100 * b'.val + t.val) := by
    have e : S100.rowMajor.symm (Fin.cast hn.symm (ValueIdx.ix2 t l gathers_S100000x128_S100x128.axis')) = (ValueIdx.ix1 t : S100.Idx) := by
      rw [Equiv.symm_apply_eq]
      refine Fin.ext ?_
      rw [Shape.rowMajor_val_one]
      rfl
    rw [e]
    refine (congrArg BitVec.toNat (((View.read_apply _ _).trans (cast_eq _ _)).trans (congrArg (tileToks X L) (listM_emb b b' h' t)))).trans ?_
    unfold tileToks tokAt
    refine congrArg (fun z => (X z).toNat) ?_
    funext a
    match a with
    | ⟨0, _⟩ => rfl
    | ⟨1, _⟩ => exact Fin.ext (by show b'.val = (100 * b'.val + t.val) / 100 % 2; omega)
    | ⟨2, _⟩ => exact Fin.ext (by show t.val = (100 * b'.val + t.val) % 100; omega)
  unfold slotVal embAt
  refine congrArg E ?_
  funext a
  match a with
  | ⟨0, _⟩ =>
    refine Fin.ext ?_
    refine (congrArg Fin.val (Shape.Gathers.idx_axis gathers_S100000x128_S100x128 _ (ValueIdx.ix2 t l))).trans ?_
    refine hrow.trans (Nat.mod_eq_of_lt ?_).symm
    exact hX _
  | ⟨1, _⟩ =>
    refine Fin.ext ?_
    refine (Shape.Gathers.idx_of_ne gathers_S100000x128_S100x128 _ (ValueIdx.ix2 t l) 1 (by decide)).trans ?_
    exact (Nat.mod_eq_of_lt l.isLt).symm

/-- A gather starts: an idle half is in flight with half a row. -/
theorem wp_fetch {α : Type} {Q : α → sProp 𝕄} (hX : ∀ x, (X x).toNat < 100000) (p : Fin 3) (j : Fin 2) (b : Fin 128)
    {off : Fin 4 → ℕ} {h} {off' : Fin 3 → ℕ} {h'} {off'' : Fin 2 → ℕ} {h''}
    (e : off = ![p.val, j.val, 0, 0]) (e' : off' = ![b.val, j.val, 0]) (e'' : off'' = ![p.val, j.val])
    {hp hn hsrc he hsp hr} {kk : PUnit → Prog (TpuEff nD τ sig (Elt F) Λ₀ (thr d L).2) α} :
    Idle d L tq X E p j
      ⊢ iprop((InFlight d L tq X E p j (base L + b.val) -∗ wp frame (wpE (defs₀ (F := F)) 𝒱₀ (thr d L) none) Set.univ (kk ⟨⟩) Q)
        -∗ wp frame (wpE (defs₀ (F := F)) 𝒱₀ (thr d L) none) Set.univ
            (SparseCore.enqueueIndirectGather hp tableM (slotM off h) gathers_S100000x128_S100x128 (listM off' h') hn (semM off'' h'') hsrc he hsp hr >>= kk) Q) := by
  subst e e' e''
  rw [semM_eq]
  unfold Idle
  iintro ⟨Ht, Hi, ⟨%f, Hs⟩, Hsem⟩ Hk
  ihave Hi' := (pointsTo_split_subset (Finset.subset_univ (listM ![b.val, j.val, 0] h').view.set)).1 $$ Hi
  icases Hi' with ⟨Hi, Hir⟩
  ihave Hs' := (Entails.of_eq (show SlotPts d L p j f = ((slotM ![p.val, j.val, 0, 0] h).view.loc (thr d L)
    ↦[(slotM ![p.val, j.val, 0, 0] h).view.set]{fullShare} (f : Buf (Elt F) (bM.view.loc (thr d L))) : sProp 𝕄) by rw [slotM_set])) $$ Hs
  ihave Ht' := (Entails.of_eq (show TabSh d L tq E p j = (tableM.view.loc (thr d L)
    ↦[tableM.view.set]{leaf 3 tq (shareIx p j)} (E : Buf (Elt F) (tM.view.loc (thr d L))) : sProp 𝕄) by rw [tableM_set])) $$ Ht
  iapply (SparseCore.wp_indirectGatherLocal countersEmb 𝒱₀ (thr d L) none (hg := gathers_S100000x128_S100x128) (default : HIx 1)
      NB (NB_rows p j h _) (by decide) (list_inb L X hX b j h')) $$ [Ht' Hs' Hi Hsem]
  · isplitl [Ht']; · iexact Ht'
    isplitl [Hs']; · iexact Hs'
    isplitl [Hi]; · iexact Hi
    iexact Hsem
  iintro Hfl
  iapply Hk
  unfold InFlight
  ihave Hfl' := (Transfers.Flight_frame countersEmb (thr d L)) $$ [Hir Hfl]
  · isplitl [Hir]; · iexact Hir
    iexact Hfl
  iapply (Transfers.Flight_mono countersEmb (thr d L) ?_) $$ Hfl'
  unfold Filled
  iintro ⟨Hir, Hs, Ht, Hi⟩
  isplitl [Ht]
  · iapply (Entails.of_eq (show TabSh d L tq E p j = (tableM.view.loc (thr d L)
      ↦[tableM.view.set]{leaf 3 tq (shareIx p j)} (E : Buf (Elt F) (tM.view.loc (thr d L))) : sProp 𝕄) by rw [tableM_set]).symm)
    iexact Ht
  isplitl [Hi Hir]
  · iapply (pointsTo_split_subset (Finset.subset_univ (listM ![b.val, j.val, 0] h').view.set)).2
    isplitl [Hi] <;> iassumption
  · rw [slotM_set]
    iapply (Entails.of_eq (pointsTo_congr (gathered L X E hX p j b h h' _ _ f)))
    iexact Hs

/-- What the tile owes, after waits that need no evidence beyond the launch's. -/
def Owed (O : CellTallies nD τ sig (HIx 1)) (W : Waits sig (HIx 1)) : sProp 𝕄 :=
  iprop(∃ W', ⌜∀ p ∈ W', p ∈ W ∨ p.2 = none⌝ ∗ owes (thr d L) O W')

/-- One wait more. -/
theorem Owed_insert (O : CellTallies nD τ sig (HIx 1)) (W W' : Waits sig (HIx 1)) (hW : ∀ p ∈ W', p ∈ W ∨ p.2 = none) (sm : SemLoc sig) :
    (owes (thr d L) O (insert (sm, (default : HIx 1)) W') : sProp 𝕄) ⊢ Owed d L O W := by
  unfold Owed
  iintro HO
  iexists _
  isplitr
  swap
  · iexact HO
  ipureintro
  intro p hp
  rcases Finset.mem_insert.mp hp with hp | hp
  · exact .inr (hp ▸ rfl)
  · exact hW p hp

/-- A wait on a half in flight: it is filled, and its semaphore reads zero. -/
theorem wp_arrive {α : Type} {Q : α → sProp 𝕄} (p : Fin 3) (j : Fin 2) (r : ℕ)
    {off : Fin 4 → ℕ} {h} {off'' : Fin 2 → ℕ} {h''}
    (e : off = ![p.val, j.val, 0, 0]) (e'' : off'' = ![p.val, j.val])
    (O : CellTallies nD τ sig (HIx 1)) (W : Waits sig (HIx 1))
    {h1 h2} {kk : PUnit → Prog (TpuEff nD τ sig (Elt F) Λ₀ (thr d L).2) α} :
    iprop(InFlight d L tq X E p j r ∗ Owed d L O W ∗ Transfers.MayWaits (thr d L) (default : HIx 1) O)
      ⊢ iprop((iprop(Filled d L tq X E p j r ∗ semVal (thr d L, SemLoc.dma (cell p j)) 0 ∗ Owed d L O W)
          -∗ wp frame (wpE (defs₀ (F := F)) 𝒱₀ (thr d L) none) Set.univ (kk ⟨⟩) Q)
        -∗ wp frame (wpE (defs₀ (F := F)) 𝒱₀ (thr d L) none) Set.univ
            (SparseCore.waitIndirectGather (semM off'' h'') tableM (slotM off h) h1 h2 >>= kk) Q) := by
  subst e e''
  rw [semM_eq]
  change _ ⊢ iprop(_ -∗ wp frame _ _ (Prog.op (.waitDma2 (cell p j) tableM (slotM ![p.val, j.val, 0, 0] h) h1 h2) kk) Q)
  unfold InFlight
  iintro ⟨Hfl, Howed, Hmw⟩ Hk
  ihave Hw := (Entails.of_eq (show Owed d L O W = iprop(∃ W', ⌜∀ p ∈ W', p ∈ W ∨ p.2 = none⌝ ∗ owes (thr d L) O W') from rfl)) $$ Howed
  icases Hw with ⟨%W', %hW, HO⟩
  iapply (Transfers.wp_waitLocalO countersEmb 𝒱₀ (thr d L) none (default : HIx 1) (NB_whole p j h)) $$ [Hfl HO Hmw]
  · isplitl [Hfl]; · iexact Hfl
    isplitl [HO]; · iexact HO
    iapply (Transfers.MayWaits.elim (SemLoc.dma (cell p j))) $$ Hmw
  iintro ⟨HD, Hsem, HO⟩
  iapply Hk
  isplitl [HD]; · iexact HD
  isplitl [Hsem]; · iexact Hsem
  iapply (Owed_insert d L O W W' hW _) $$ HO

end Cert.Proof.Pool

end
-- ==== Proof.Rows.lean ====
/-
  What a tile does besides its gathers: it fetches its tokens, reads filled halves of the ring sixteen entries at a time,
  collects sixteen pooled rows in a block, and writes full blocks out.
-/
module

public import proofs.«01_k».proof.Proof.Slots

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)
variable (X : S4096x2x100.Idx → BitVec 32) (E : S100000x128.Idx → F .f32)

omit [FloatOps F] [Named F] in
theorem base_lt : base L + 128 ≤ 4096 := by
  have h0 : (L 0).val < 2 := (L 0).isLt
  have h1 : (L 1).val < 16 := (L 1).isLt
  unfold base; omega

/-! ## Reading a filled half -/

/-- A load of sixteen entries of one token's embedding, from a half that holds row `r`. -/
theorem wp_chunk {α : Type} {Q : α → sProp 𝕄} (p : Fin 3) (j : Fin 2) (r n l : ℕ) {off : Fin 4 → ℕ} {h}
    (e : off = ![p.val, j.val, n, l]) {hl}
    {kk : Vec F S1x1x1x16 .f32 → Prog (TpuEff nD τ sig (Elt F) Λ₀ (thr d L).2) α} :
    SlotPts d L p j (slotVal X E r)
      ⊢ iprop((SlotPts d L p j (slotVal X E r) -∗ wp frame (wpE (defs₀ (F := F)) 𝒱₀ (thr d L) none) Set.univ (kk (chunk X E r (100 * j.val + n) l)) Q)
        -∗ wp frame (wpE (defs₀ (F := F)) 𝒱₀ (thr d L) none) Set.univ
            (Prog.lift (.load bM (Rect.unit (s := S3x2x100x128) off S1x1x1x16.size h).toLoadRect hl) >>= kk) Q) := by
  subst e
  have hv : ∀ (y : S1x1x1x16.Idx) (a : Fin 4), (((Rect.unit (s := S3x2x100x128) ![p.val, j.val, n, l] S1x1x1x16.size h).emb y) a : ℕ)
      = (![p.val, j.val, n, l] : Fin 4 → ℕ) a + (y a).val := fun y a => ValueKit.rect_emb_unit_val _ _ _ _ _
  have z0 : ∀ y : S1x1x1x16.Idx, (y 0).val = 0 := fun y => Nat.lt_one_iff.mp (y 0).isLt
  have z1 : ∀ y : S1x1x1x16.Idx, (y 1).val = 0 := fun y => Nat.lt_one_iff.mp (y 1).isLt
  have z2 : ∀ y : S1x1x1x16.Idx, (y 2).val = 0 := fun y => Nat.lt_one_iff.mp (y 2).isLt
  have hS : (bM.access (Rect.unit (s := S3x2x100x128) ![p.val, j.val, n, l] S1x1x1x16.size h)).set ⊆ slotSet p j := by
    intro x hx
    obtain ⟨y, -, rfl⟩ := Finset.mem_map.mp hx
    rw [mem_slotSet]
    refine ⟨(hv y 0).trans ?_, (hv y 1).trans ?_⟩
    · rw [z0]; rfl
    · rw [z1]; rfl
  have hr : (bM.access (Rect.unit (s := S3x2x100x128) ![p.val, j.val, n, l] S1x1x1x16.size h)).read (Elt F) (slotVal X E r)
      = chunk X E r (100 * j.val + n) l := by
    funext y
    refine ((View.read_apply _ _).trans (cast_eq _ _)).trans ?_
    show embAt E (tokAt X r (100 * ((Rect.unit (s := S3x2x100x128) ![p.val, j.val, n, l] S1x1x1x16.size h).emb y 1).val
      + ((Rect.unit (s := S3x2x100x128) ![p.val, j.val, n, l] S1x1x1x16.size h).emb y 2).val)) ((Rect.unit (s := S3x2x100x128) ![p.val, j.val, n, l] S1x1x1x16.size h).emb y 3).val = _
    rw [hv, hv, hv, z1, z2]
    rfl
  change _ ⊢ iprop(_ -∗ wp frame _ _ (Prog.op _ kk) Q)
  iintro H Hk
  iapply (wp_load_rect 𝒱₀ (thr d L) none Set.univ hS) $$ H
  iintro H
  rw [hr]
  iapply Hk
  iexact H

/-! ## The block of pooled rows -/

/-- The block's rows below `q` and row `q`'s entries below `c` hold the pooled rows from `r` on. -/
def AccOK (r q c : ℕ) (f : S16x128.Idx → F .f32) : Prop :=
  ∀ x, (x 0).val < q ∨ ((x 0).val = q ∧ (x 1).val < c) → f x = accum X E (r + (x 0).val) (x 1).val 200

/-- The block, filled that far. -/
def Acc (r q c : ℕ) : sProp 𝕄 :=
  iprop(∃ f, ⌜AccOK X E r q c f⌝ ∗ (aM.view.loc (thr d L) : Loc nD τ sig) ↦{fullShare} (f : Buf (Elt F) (aM.view.loc (thr d L))))

/-- A row's last entry filled: the row is. -/
theorem Acc_next (r q : ℕ) : Acc d L X E r q 128 ⊢ Acc d L X E r (q + 1) 0 := by
  unfold Acc
  iintro ⟨%f, %hf, H⟩
  iexists f
  isplitr
  · ipureintro
    intro x hx
    have h1 : (x 1).val < 128 := (x 1).isLt
    exact hf x (by omega)
  · iexact H

/-- A block begun anew. -/
theorem Acc_zero (r r' q c : ℕ) : Acc d L X E r q c ⊢ Acc d L X E r' 0 0 := by
  unfold Acc
  iintro ⟨%f, %hf, H⟩
  iexists f
  isplitr
  · ipureintro
    intro x hx
    omega
  · iexact H

/-- A load from the block, whose value is not used. -/
theorem wp_peek {α : Type} {Q : α → sProp 𝕄} (r q c : ℕ) {off : Fin 2 → ℕ} {h} {hl}
    {kk : Vec F S1x16 .f32 → Prog (TpuEff nD τ sig (Elt F) Λ₀ (thr d L).2) α} :
    Acc d L X E r q c
      ⊢ iprop((∀ v, Acc d L X E r q c -∗ wp frame (wpE (defs₀ (F := F)) 𝒱₀ (thr d L) none) Set.univ (kk v) Q)
        -∗ wp frame (wpE (defs₀ (F := F)) 𝒱₀ (thr d L) none) Set.univ
            (Prog.lift (.load aM (Rect.unit (s := S16x128) off S1x16.size h).toLoadRect hl) >>= kk) Q) := by
  change _ ⊢ iprop(_ -∗ wp frame _ _ (Prog.op _ kk) Q)
  unfold Acc
  iintro ⟨%f, %hf, H⟩ Hk
  iapply (wp_load 𝒱₀ (thr d L) none Set.univ (Finset.subset_univ _)) $$ H
  iintro H
  iapply Hk
  iexists f
  isplitr
  · ipureintro; exact hf
  · iexact H

/-- A store of sixteen finished entries. -/
theorem wp_put {α : Type} {Q : α → sProp 𝕄} (r q c : ℕ) {off : Fin 2 → ℕ} {h} (e : off = ![q, c])
    {w : FVec F S1x16 .f32} (hw : w = shapeCast S1x16 (accs X E (r + q) c 200) shapeCasts_S16_S1x16) {hx hm}
    {kk : PUnit → Prog (TpuEff nD τ sig (Elt F) Λ₀ (thr d L).2) α} :
    Acc d L X E r q c
      ⊢ iprop((Acc d L X E r q (c + 16) -∗ wp frame (wpE (defs₀ (F := F)) 𝒱₀ (thr d L) none) Set.univ (kk ⟨⟩) Q)
        -∗ wp frame (wpE (defs₀ (F := F)) 𝒱₀ (thr d L) none) Set.univ
            (Prog.lift (.store aM (Rect.unit (s := S16x128) off S1x16.size h) w Finset.univ hx hm) >>= kk) Q) := by
  subst e hw
  change _ ⊢ iprop(_ -∗ wp frame _ _ (Prog.op _ kk) Q)
  unfold Acc
  iintro ⟨%f, %hf, H⟩ Hk
  iapply (wp_store 𝒱₀ (thr d L) none Set.univ (m := aM) (r := Rect.unit (s := S16x128) ![q, c] S1x16.size h) (Finset.subset_univ _)) $$ H
  iintro H
  iapply Hk
  iexists _
  isplitr
  swap
  · iexact H
  ipureintro
  have hv : ∀ (y : S1x16.Idx) (a : Fin 2), (((Rect.unit (s := S16x128) ![q, c] S1x16.size h).emb y) a : ℕ)
      = (![q, c] : Fin 2 → ℕ) a + (y a).val := fun y a => ValueKit.rect_emb_unit_val _ _ _ _ _
  intro x hx
  by_cases hm : x ∈ (aM.access (Rect.unit (s := S16x128) ![q, c] S1x16.size h)).set
  · obtain ⟨y, -, rfl⟩ := Finset.mem_map.mp hm
    refine (View.write_emb_of_mem _ _ (Finset.mem_univ y)).trans ((cast_eq _ _).trans ?_)
    show accum X E (r + q) (c + (Shape.reshapeEquiv shapeCasts_S16_S1x16 y 0).val) 200
      = accum X E (r + ((Rect.unit (s := S16x128) ![q, c] S1x16.size h).emb y 0).val) ((Rect.unit (s := S16x128) ![q, c] S1x16.size h).emb y 1).val 200
    have z0 : (y 0).val = 0 := Nat.lt_one_iff.mp (y 0).isLt
    have er : Shape.reshapeEquiv shapeCasts_S16_S1x16 y = (ValueIdx.ix1 (y 1) : S16.Idx) := by
      refine Shape.reshapeEquiv_eq_of_rowMajor _ ?_
      rw [Shape.rowMajor_val_two, Shape.rowMajor_val_one, z0]
      show (y 1).val = 0 * 16 + (y 1).val
      omega
    rw [er, hv, hv, z0]
    rfl
  · refine (View.write_of_not_mem _ _ Finset.univ hm).trans (hf x ?_)
    rcases hx with hx | ⟨h0, h1⟩
    · exact .inl hx
    · refine .inr ⟨h0, ?_⟩
      by_contra hc
      have hlt : (x 1).val - c < 16 := by omega
      refine hm (Finset.mem_map.mpr ⟨ValueIdx.ix2 (⟨0, Nat.one_pos⟩ : Fin 1) (⟨(x 1).val - c, hlt⟩ : Fin 16), Finset.mem_univ _, ?_⟩)
      funext a; refine Fin.ext ((hv _ a).trans ?_)
      match a with
      | ⟨0, _⟩ => exact (Nat.add_zero q).trans h0.symm
      | ⟨1, _⟩ => show c + ((x 1).val - c) = (x 1).val; omega

/-! ## The tile's block of the output -/

/-- The tile's 128 rows of the output. -/
def outSet : Finset S4096x128.Idx := Finset.univ.filter fun x => base L ≤ (x 0).val ∧ (x 0).val < base L + 128

/-- The tile's rows of the output, the first `n` of them pooled. -/
def Out (n : ℕ) : sProp 𝕄 :=
  iprop(∃ f, ⌜∀ x, base L ≤ (x 0).val → (x 0).val < base L + n → f x = pooled X E x⌝
    ∗ (oM.view.loc (thr d L) : Loc nD τ sig) ↦[outSet L]{fullShare} (f : Buf (Elt F) (oM.view.loc (thr d L))))

/-- The write-out of a full block, and its wait. -/
theorem wp_flush {α : Type} {Q : α → sProp 𝕄} (n : ℕ) (hn : n + 16 ≤ 128) {off : Fin 2 → ℕ} {h h'} (e : off = ![base L + n, 0])
    (O : CellTallies nD τ sig (HIx 1)) (W : Waits sig (HIx 1)) {h1 h2 h3 h4 h5}
    {kk : PUnit → Prog (TpuEff nD τ sig (Elt F) Λ₀ (thr d L).2) α} :
    iprop(Acc d L X E (base L + n) 16 0 ∗ Out d L X E n ∗ semVal (thr d L, SemLoc.dma cc0_scoped1.sem) 0
        ∗ Owed d L O W ∗ Transfers.MayWaits (thr d L) (default : HIx 1) O)
      ⊢ iprop((iprop(Acc d L X E (base L + (n + 16)) 0 0 ∗ Out d L X E (n + 16) ∗ semVal (thr d L, SemLoc.dma cc0_scoped1.sem) 0
            ∗ Owed d L O W)
          -∗ wp frame (wpE (defs₀ (F := F)) 𝒱₀ (thr d L) none) Set.univ (kk ⟨⟩) Q)
        -∗ wp frame (wpE (defs₀ (F := F)) 𝒱₀ (thr d L) none) Set.univ
            (Prog.lift (.enqueueDma aM (.here (oM.slice (Rect.unit (s := S4096x128) off S16x128.size h) (fun _ => rfl))) (.dma cc0_scoped1.sem) h1 h2 h3)
              >>= fun _ => Prog.lift (.waitDma2 cc0_scoped1.sem aM (oM.slice (Rect.unit (s := S4096x128) off S16x128.size h') (fun _ => rfl)) h4 h5) >>= kk) Q) := by
  subst e
  have hv : ∀ (y : S16x128.Idx) (a : Fin 2), (((Rect.unit (s := S4096x128) ![base L + n, 0] S16x128.size h).emb y) a : ℕ)
      = (![base L + n, 0] : Fin 2 → ℕ) a + (y a).val := fun y a => ValueKit.rect_emb_unit_val _ _ _ _ _
  have hSd : (oM.slice (Rect.unit (s := S4096x128) ![base L + n, 0] S16x128.size h) (fun _ => rfl)).view.set ⊆ outSet L := by
    intro x hx
    obtain ⟨y, -, rfl⟩ := Finset.mem_map.mp hx
    have e0 : (((Rect.unit (s := S4096x128) ![base L + n, 0] S16x128.size h).emb y) 0 : ℕ) = base L + n + (y 0).val := hv y 0
    have h0 : (y 0).val < 16 := (y 0).isLt
    refine Finset.mem_filter.mpr ⟨Finset.mem_univ _, ?_⟩
    show base L ≤ ((Rect.unit (s := S4096x128) ![base L + n, 0] S16x128.size h).emb y 0).val ∧ ((Rect.unit (s := S4096x128) ![base L + n, 0] S16x128.size h).emb y 0).val < base L + 128
    omega
  unfold Acc Out
  iintro ⟨⟨%f, %hf, HA⟩, ⟨%g, %hg, Ho⟩, Hsem, Howed, Hmw⟩ Hk
  ihave Hw := (Entails.of_eq (show Owed d L O W = iprop(∃ W', ⌜∀ p ∈ W', p ∈ W ∨ p.2 = none⌝ ∗ owes (thr d L) O W') from rfl)) $$ Howed
  icases Hw with ⟨%W', %hW, HO⟩
  ihave HA' := (Entails.of_eq (show ((aM.view.loc (thr d L) : Loc nD τ sig) ↦{fullShare} (f : Buf (Elt F) (aM.view.loc (thr d L))) : sProp 𝕄)
    = (aM.view.loc (thr d L) : Loc nD τ sig) ↦[aM.view.set]{fullShare} (f : Buf (Elt F) (aM.view.loc (thr d L))) by
      rw [show aM.view.set = Finset.univ from View.set_whole _])) $$ HA
  iapply (Transfers.wp_dmaLocal countersEmb 𝒱₀ (thr d L) none (default : HIx 1)
    (oM.slice (Rect.unit (s := S4096x128) ![base L + n, 0] S16x128.size h) (fun _ => rfl)).view.dmaCredit rfl (View.dmaCredit_pos _ (show 0 < S16x128.numel by decide)) hSd) $$ [HA' Ho Hsem]
  · isplitl [HA']; · iexact HA'
    isplitl [Ho]; · iexact Ho
    iexact Hsem
  iintro Hfl
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma cc0_scoped1.sem)) $$ Hmw
  iintro ⟨⟨Ho, HA⟩, Hsem, HO⟩
  iapply Hk
  isplitl [HA]
  · iexists f
    isplitr
    · ipureintro; intro x hx; omega
    · iapply (Entails.of_eq (show ((aM.view.loc (thr d L) : Loc nD τ sig) ↦[aM.view.set]{fullShare} (f : Buf (Elt F) (aM.view.loc (thr d L))) : sProp 𝕄)
        = (aM.view.loc (thr d L) : Loc nD τ sig) ↦{fullShare} (f : Buf (Elt F) (aM.view.loc (thr d L))) by
          rw [show aM.view.set = Finset.univ from View.set_whole _]))
      iexact HA
  isplitl [Ho]
  · iexists _
    isplitr
    swap
    · iexact Ho
    ipureintro
    intro x hx hx'
    by_cases hm : x ∈ (oM.slice (Rect.unit (s := S4096x128) ![base L + n, 0] S16x128.size h) (fun _ => rfl)).view.set
    · obtain ⟨y, -, rfl⟩ := Finset.mem_map.mp hm
      refine (View.write_emb_of_mem _ _ (Finset.mem_univ y)).trans ((cast_eq _ _).trans ?_)
      have e0 : (((Rect.unit (s := S4096x128) ![base L + n, 0] S16x128.size h).emb y) 0 : ℕ) = base L + n + (y 0).val := hv y 0
      have e1 : (((Rect.unit (s := S4096x128) ![base L + n, 0] S16x128.size h).emb y) 1 : ℕ) = 0 + (y 1).val := hv y 1
      show aM.view.read (Elt F) f y = accum X E ((Rect.unit (s := S4096x128) ![base L + n, 0] S16x128.size h).emb y 0).val
        ((Rect.unit (s := S4096x128) ![base L + n, 0] S16x128.size h).emb y 1).val 200
      rw [e0, e1, Nat.zero_add]
      refine ((View.read_apply _ _).trans (cast_eq _ _)).trans ?_
      exact hf y (.inl (y 0).isLt)
    · refine (View.write_of_not_mem _ _ Finset.univ hm).trans (hg x hx ?_)
      by_contra hc
      have hlt : (x 0).val - (base L + n) < 16 := by omega
      refine hm (Finset.mem_map.mpr ⟨ValueIdx.ix2 (⟨(x 0).val - (base L + n), hlt⟩ : Fin 16) (x 1), Finset.mem_univ _, ?_⟩)
      funext a; refine Fin.ext ((hv _ a).trans ?_)
      match a with
      | ⟨0, _⟩ => show base L + n + ((x 0).val - (base L + n)) = (x 0).val; omega
      | ⟨1, _⟩ => exact Nat.zero_add _
  isplitl [Hsem]; · iexact Hsem
  iapply (Owed_insert d L O W W' hW _) $$ HO

/-! ## The tile's tokens -/

/-- The tile's tokens, read out of the token array. -/
theorem toks_read (h) : (xM.slice (Rect.unit (s := S4096x2x100) ![base L, 0, 0] S128x2x100.size h) (fun _ => rfl)).view.read (Elt F) X = tileToks X L := by
  funext y
  refine ((View.read_apply _ _).trans (cast_eq _ _)).trans ?_
  unfold tileToks
  refine congrArg X ?_
  have hv : ∀ (a : Fin 3), (((Rect.unit (s := S4096x2x100) ![base L, 0, 0] S128x2x100.size h).emb y) a : ℕ)
      = (![base L, 0, 0] : Fin 3 → ℕ) a + (y a).val := fun a => ValueKit.rect_emb_unit_val _ _ _ _ _
  have hb := base_lt L
  have h0 : (y 0).val < 128 := (y 0).isLt
  funext a; refine Fin.ext ((hv a).trans ?_)
  match a with
  | ⟨0, _⟩ => exact (Nat.mod_eq_of_lt (show base L + (y 0).val < 4096 by omega)).symm
  | ⟨1, _⟩ => exact Nat.zero_add _
  | ⟨2, _⟩ => exact Nat.zero_add _

/-- The fetch of the tile's tokens, and its wait. -/
theorem wp_tokens {α : Type} {Q : α → sProp 𝕄} (q : PosShare TreeShare) {off : Fin 3 → ℕ} {h h'} (e : off = ![base L, 0, 0])
    (O : CellTallies nD τ sig (HIx 1)) (W : Waits sig (HIx 1)) {h1 h2 h3 h4 h5}
    {kk : PUnit → Prog (TpuEff nD τ sig (Elt F) Λ₀ (thr d L).2) α} :
    iprop(((xM.view.loc (thr d L) : Loc nD τ sig) ↦{q} (X : Buf (Elt F) (xM.view.loc (thr d L))))
        ∗ (∃ f, (iM.view.loc (thr d L) : Loc nD τ sig) ↦{fullShare} (f : Buf (Elt F) (iM.view.loc (thr d L))))
        ∗ semVal (thr d L, SemLoc.dma cc0_scoped0.sem) 0
        ∗ Owed d L O W ∗ Transfers.MayWaits (thr d L) (default : HIx 1) O)
      ⊢ iprop((iprop(((xM.view.loc (thr d L) : Loc nD τ sig) ↦{q} (X : Buf (Elt F) (xM.view.loc (thr d L))))
            ∗ ((iM.view.loc (thr d L) : Loc nD τ sig) ↦{fullShare} (tileToks X L : Buf (Elt F) (iM.view.loc (thr d L))))
            ∗ semVal (thr d L, SemLoc.dma cc0_scoped0.sem) 0
            ∗ Owed d L O W)
          -∗ wp frame (wpE (defs₀ (F := F)) 𝒱₀ (thr d L) none) Set.univ (kk ⟨⟩) Q)
        -∗ wp frame (wpE (defs₀ (F := F)) 𝒱₀ (thr d L) none) Set.univ
            (Prog.lift (.enqueueDma (xM.slice (Rect.unit (s := S4096x2x100) off S128x2x100.size h) (fun _ => rfl)) (.here iM) (.dma cc0_scoped0.sem) h1 h2 h3)
              >>= fun _ => Prog.lift (.waitDma2 cc0_scoped0.sem (xM.slice (Rect.unit (s := S4096x2x100) off S128x2x100.size h') (fun _ => rfl)) iM h4 h5) >>= kk) Q) := by
  subst e
  iintro ⟨Hx, ⟨%f, Hi⟩, Hsem, Howed, Hmw⟩ Hk
  ihave Hw := (Entails.of_eq (show Owed d L O W = iprop(∃ W', ⌜∀ p ∈ W', p ∈ W ∨ p.2 = none⌝ ∗ owes (thr d L) O W') from rfl)) $$ Howed
  icases Hw with ⟨%W', %hW, HO⟩
  ihave Hx' := (pointsTo_split_subset (Finset.subset_univ (xM.slice (Rect.unit (s := S4096x2x100) ![base L, 0, 0] S128x2x100.size h) (fun _ => rfl)).view.set)).1 $$ Hx
  icases Hx' with ⟨Hx, Hxr⟩
  iapply (Transfers.wp_dmaLocal countersEmb 𝒱₀ (thr d L) none (default : HIx 1)
    iM.view.dmaCredit rfl (View.dmaCredit_pos _ (by decide)) (Finset.subset_univ _)) $$ [Hx Hi Hsem]
  · isplitl [Hx]; · iexact Hx
    isplitl [Hi]; · iexact Hi
    iexact Hsem
  iintro Hfl
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma cc0_scoped0.sem)) $$ Hmw
  iintro ⟨⟨Hi, Hx⟩, Hsem, HO⟩
  iapply Hk
  isplitl [Hx Hxr]
  · iapply (pointsTo_split_subset (Finset.subset_univ (xM.slice (Rect.unit (s := S4096x2x100) ![base L, 0, 0] S128x2x100.size h) (fun _ => rfl)).view.set)).2
    isplitl [Hx] <;> iassumption
  isplitl [Hi]
  · have ew : iM.view.write (Elt F) f ((xM.slice (Rect.unit (s := S4096x2x100) ![base L, 0, 0] S128x2x100.size h) (fun _ => rfl)).view.read (Elt F) X) Finset.univ
        = tileToks X L := (View.write_whole_univ _ _ _).trans (toks_read (F := F) L X h)
    iapply (Entails.of_eq (congrArg (fun z : Buf (Elt F) (iM.view.loc (thr d L)) => ((iM.view.loc (thr d L) : Loc nD τ sig) ↦{fullShare} z : sProp 𝕄)) ew))
    iexact Hi
  isplitl [Hsem]; · iexact Hsem
  iapply (Owed_insert d L O W W' hW _) $$ HO

end Cert.Proof.Pool

end
-- ==== Proof.Trip.lean ====
/-
  The two inner loops: two tokens a trip, sixteen loads of the ring, eight running sums.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)
variable (X : S4096x2x100.Idx → BitVec 32) (E : S100000x128.Idx → F .f32)

/-- The eight running sums of a row after `n` tokens. -/
abbrev accs8 (r n : ℕ) : FVec F S16 .f32 × FVec F S16 .f32 × FVec F S16 .f32 × FVec F S16 .f32 × FVec F S16 .f32 × FVec F S16 .f32 × FVec F S16 .f32 × FVec F S16 .f32 :=
  (accs X E r 0 n, accs X E r 16 n, accs X E r 32 n, accs X E r 48 n, accs X E r 64 n, accs X E r 80 n, accs X E r 96 n, accs X E r 112 n)

/-- Two tokens more. -/
theorem accs_two (r l j n : ℕ) :
    addf (addf (accs X E r l (100 * j + 2 * n)) (shapeCast S16 (chunk X E r (100 * j + (2 * n + 0)) l) shapeCasts_S1x1x1x16_S16))
        (shapeCast S16 (chunk X E r (100 * j + (2 * n + 1)) l) shapeCasts_S1x1x1x16_S16)
      = accs X E r l (100 * j + 2 * (n + 1)) := by
  rw [show addf (accs X E r l (100 * j + 2 * n)) (shapeCast S16 (chunk X E r (100 * j + (2 * n + 0)) l) shapeCasts_S1x1x1x16_S16)
    = accs X E r l (100 * j + 2 * n + 1) from accs_step X E r l (100 * j + 2 * n)]
  exact accs_step X E r l (100 * j + 2 * n + 1)

/-- The slot of trip `t`. -/
abbrev slotOf (t : Fin k0_t2_loop.trips) : Fin 3 := ⟨t.val % 3, Nat.mod_lt _ (by decide)⟩

/-- A trip of the first inner loop. -/
theorem trip3 (r : ℕ) (t : Fin k0_t2_loop.trips) (v14 : BitVec 32) (n : Fin k0_t3_loop.trips) (c0 c1 : BitVec 32) :
    SlotPts d L (slotOf t) 0 (slotVal X E r)
      ⊢ wp frame (wpE (defs₀ (F := F)) 𝒱₀ (thr d L) none) Set.univ
          (k0_t3_body L xM (Memref.isWhole_whole _) tM (Memref.isWhole_whole _) oM (Memref.isWhole_whole _)
            iM (Memref.isWhole_whole _) bM (Memref.isWhole_whole _) aM (Memref.isWhole_whole _)
            cc0_scratch3 cc0_scoped0 cc0_scoped1 c0 c1 t v14 n (accs8 X E r (100 * (0 : Fin 2).val + 2 * n.val)))
          fun z => iprop(⌜z = accs8 X E r (100 * (0 : Fin 2).val + 2 * (n.val + 1))⌝ ∗ SlotPts d L (slotOf t) 0 (slotVal X E r)) := by
  unfold k0_t3_body
  simp only [k0_part1_eq_skeleton, k0_part2_eq_skeleton, k0_part3_eq_skeleton]
  unfold k0_part1_skel k0_part2_skel k0_part3_skel
  simp only [bind_assoc, pure_bind]
  iintro H
  iapply (wp_chunk (off := k0_off10 t n 0#32) d L X E (slotOf t) 0 r (2 * n.val + 0) 0 (ringOff t n 0 0 0)) $$ H; iintro H
  iapply (wp_chunk (off := k0_off11 t n 0#32) d L X E (slotOf t) 0 r (2 * n.val + 0) 16 (ringOff t n 0 0 16)) $$ H; iintro H
  iapply (wp_chunk (off := k0_off12 t n 0#32) d L X E (slotOf t) 0 r (2 * n.val + 0) 32 (ringOff t n 0 0 32)) $$ H; iintro H
  iapply (wp_chunk (off := k0_off13 t n 0#32) d L X E (slotOf t) 0 r (2 * n.val + 0) 48 (ringOff t n 0 0 48)) $$ H; iintro H
  iapply (wp_chunk (off := k0_off14 t n 0#32) d L X E (slotOf t) 0 r (2 * n.val + 0) 64 (ringOff t n 0 0 64)) $$ H; iintro H
  iapply (wp_chunk (off := k0_off15 t n 0#32) d L X E (slotOf t) 0 r (2 * n.val + 0) 80 (ringOff t n 0 0 80)) $$ H; iintro H
  iapply (wp_chunk (off := k0_off16 t n 0#32) d L X E (slotOf t) 0 r (2 * n.val + 0) 96 (ringOff t n 0 0 96)) $$ H; iintro H
  iapply (wp_chunk (off := k0_off17 t n 0#32) d L X E (slotOf t) 0 r (2 * n.val + 0) 112 (ringOff t n 0 0 112)) $$ H; iintro H
  iapply (wp_chunk (off := k0_off10 t n 1#32) d L X E (slotOf t) 0 r (2 * n.val + 1) 0 (ringOff t n 1 0 0)) $$ H; iintro H
  iapply (wp_chunk (off := k0_off11 t n 1#32) d L X E (slotOf t) 0 r (2 * n.val + 1) 16 (ringOff t n 1 0 16)) $$ H; iintro H
  iapply (wp_chunk (off := k0_off12 t n 1#32) d L X E (slotOf t) 0 r (2 * n.val + 1) 32 (ringOff t n 1 0 32)) $$ H; iintro H
  iapply (wp_chunk (off := k0_off13 t n 1#32) d L X E (slotOf t) 0 r (2 * n.val + 1) 48 (ringOff t n 1 0 48)) $$ H; iintro H
  iapply (wp_chunk (off := k0_off14 t n 1#32) d L X E (slotOf t) 0 r (2 * n.val + 1) 64 (ringOff t n 1 0 64)) $$ H; iintro H
  iapply (wp_chunk (off := k0_off15 t n 1#32) d L X E (slotOf t) 0 r (2 * n.val + 1) 80 (ringOff t n 1 0 80)) $$ H; iintro H
  iapply (wp_chunk (off := k0_off16 t n 1#32) d L X E (slotOf t) 0 r (2 * n.val + 1) 96 (ringOff t n 1 0 96)) $$ H; iintro H
  iapply (wp_chunk (off := k0_off17 t n 1#32) d L X E (slotOf t) 0 r (2 * n.val + 1) 112 (ringOff t n 1 0 112)) $$ H; iintro H
  rw [wp_pure]
  imodintro
  isplitr
  · ipureintro
    refine Prod.ext (accs_two X E r 0 0 n) (Prod.ext (accs_two X E r 16 0 n) (Prod.ext (accs_two X E r 32 0 n) (Prod.ext (accs_two X E r 48 0 n)
      (Prod.ext (accs_two X E r 64 0 n) (Prod.ext (accs_two X E r 80 0 n) (Prod.ext (accs_two X E r 96 0 n) (accs_two X E r 112 0 n)))))))
  · iexact H

/-- A trip of the second inner loop. -/
theorem trip4 (r : ℕ) (t : Fin k0_t2_loop.trips) (v14 : BitVec 32) (n : Fin k0_t4_loop.trips) (a9 : BitVec 32) (w0 w1 w2 w3 w4 w5 w6 w7 : FVec F S16 .f32) :
    SlotPts d L (slotOf t) 1 (slotVal X E r)
      ⊢ wp frame (wpE (defs₀ (F := F)) 𝒱₀ (thr d L) none) Set.univ
          (k0_t4_body L xM (Memref.isWhole_whole _) tM (Memref.isWhole_whole _) oM (Memref.isWhole_whole _)
            iM (Memref.isWhole_whole _) bM (Memref.isWhole_whole _) aM (Memref.isWhole_whole _)
            cc0_scratch3 cc0_scoped0 cc0_scoped1 t a9 v14 w0 w1 w2 w3 w4 w5 w6 w7 n (accs8 X E r (100 * (1 : Fin 2).val + 2 * n.val)))
          fun z => iprop(⌜z = accs8 X E r (100 * (1 : Fin 2).val + 2 * (n.val + 1))⌝ ∗ SlotPts d L (slotOf t) 1 (slotVal X E r)) := by
  unfold k0_t4_body
  simp only [k0_part4_eq_skeleton, k0_part5_eq_skeleton, k0_part6_eq_skeleton]
  unfold k0_part4_skel k0_part5_skel k0_part6_skel
  simp only [bind_assoc, pure_bind]
  iintro H
  iapply (wp_chunk (off := k0_off20 t n 0#32) d L X E (slotOf t) 1 r (2 * n.val + 0) 0 (ringOff t n 0 1 0)) $$ H; iintro H
  iapply (wp_chunk (off := k0_off21 t n 0#32) d L X E (slotOf t) 1 r (2 * n.val + 0) 16 (ringOff t n 0 1 16)) $$ H; iintro H
  iapply (wp_chunk (off := k0_off22 t n 0#32) d L X E (slotOf t) 1 r (2 * n.val + 0) 32 (ringOff t n 0 1 32)) $$ H; iintro H
  iapply (wp_chunk (off := k0_off23 t n 0#32) d L X E (slotOf t) 1 r (2 * n.val + 0) 48 (ringOff t n 0 1 48)) $$ H; iintro H
  iapply (wp_chunk (off := k0_off24 t n 0#32) d L X E (slotOf t) 1 r (2 * n.val + 0) 64 (ringOff t n 0 1 64)) $$ H; iintro H
  iapply (wp_chunk (off := k0_off25 t n 0#32) d L X E (slotOf t) 1 r (2 * n.val + 0) 80 (ringOff t n 0 1 80)) $$ H; iintro H
  iapply (wp_chunk (off := k0_off26 t n 0#32) d L X E (slotOf t) 1 r (2 * n.val + 0) 96 (ringOff t n 0 1 96)) $$ H; iintro H
  iapply (wp_chunk (off := k0_off27 t n 0#32) d L X E (slotOf t) 1 r (2 * n.val + 0) 112 (ringOff t n 0 1 112)) $$ H; iintro H
  iapply (wp_chunk (off := k0_off20 t n 1#32) d L X E (slotOf t) 1 r (2 * n.val + 1) 0 (ringOff t n 1 1 0)) $$ H; iintro H
  iapply (wp_chunk (off := k0_off21 t n 1#32) d L X E (slotOf t) 1 r (2 * n.val + 1) 16 (ringOff t n 1 1 16)) $$ H; iintro H
  iapply (wp_chunk (off := k0_off22 t n 1#32) d L X E (slotOf t) 1 r (2 * n.val + 1) 32 (ringOff t n 1 1 32)) $$ H; iintro H
  iapply (wp_chunk (off := k0_off23 t n 1#32) d L X E (slotOf t) 1 r (2 * n.val + 1) 48 (ringOff t n 1 1 48)) $$ H; iintro H
  iapply (wp_chunk (off := k0_off24 t n 1#32) d L X E (slotOf t) 1 r (2 * n.val + 1) 64 (ringOff t n 1 1 64)) $$ H; iintro H
  iapply (wp_chunk (off := k0_off25 t n 1#32) d L X E (slotOf t) 1 r (2 * n.val + 1) 80 (ringOff t n 1 1 80)) $$ H; iintro H
  iapply (wp_chunk (off := k0_off26 t n 1#32) d L X E (slotOf t) 1 r (2 * n.val + 1) 96 (ringOff t n 1 1 96)) $$ H; iintro H
  iapply (wp_chunk (off := k0_off27 t n 1#32) d L X E (slotOf t) 1 r (2 * n.val + 1) 112 (ringOff t n 1 1 112)) $$ H; iintro H
  rw [wp_pure]
  imodintro
  isplitr
  · ipureintro
    refine Prod.ext (accs_two X E r 0 1 n) (Prod.ext (accs_two X E r 16 1 n) (Prod.ext (accs_two X E r 32 1 n) (Prod.ext (accs_two X E r 48 1 n)
      (Prod.ext (accs_two X E r 64 1 n) (Prod.ext (accs_two X E r 80 1 n) (Prod.ext (accs_two X E r 96 1 n) (accs_two X E r 112 1 n)))))))
  · iexact H

/-- The first inner loop: the sums of a row's first hundred tokens. -/
theorem loop3 {α : Type} {Q : α → sProp 𝕄} (r : ℕ) (t : Fin k0_t2_loop.trips) (v14 c0 c1 : BitVec 32)
    {kk : FVec F S16 .f32 × FVec F S16 .f32 × FVec F S16 .f32 × FVec F S16 .f32 × FVec F S16 .f32 × FVec F S16 .f32 × FVec F S16 .f32 × FVec F S16 .f32
      → Prog (TpuEff nD τ sig (Elt F) Λ₀ (thr d L).2) α} :
    SlotPts d L (slotOf t) 0 (slotVal X E r)
      ⊢ iprop((SlotPts d L (slotOf t) 0 (slotVal X E r) -∗ wp frame (wpE (defs₀ (F := F)) 𝒱₀ (thr d L) none) Set.univ (kk (accs8 X E r 100)) Q)
        -∗ wp frame (wpE (defs₀ (F := F)) 𝒱₀ (thr d L) none) Set.univ
            (Scf.Loop.for k0_t3_loop k0_t3_ok (k0_pay36 (F := F), k0_pay37 (F := F), k0_pay38 (F := F), k0_pay39 (F := F), k0_pay40 (F := F), k0_pay41 (F := F), k0_pay42 (F := F), k0_pay43 (F := F))
              (k0_t3_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1 c0 c1 t v14) >>= kk) Q) := by
  iintro H Hk
  iapply (Scf.wp_for_bind frame (wpE (defs₀ (F := F)) 𝒱₀ (thr d L) none) Set.univ _ _ _ k0_t3_ok _ _
    (fun n acc => iprop(⌜acc = accs8 X E r (100 * (0 : Fin 2).val + 2 * n)⌝ ∗ SlotPts d L (slotOf t) 0 (slotVal X E r))) ?_) $$ [H]
  · intro n acc
    iintro ⟨%e, H⟩
    subst e
    iapply (trip3 d L X E r t v14 n c0 c1) $$ H
  · isplitr
    · ipureintro; rfl
    · iexact H
  iintro %acc ⟨%e, H⟩
  rw [show acc = accs8 X E r 100 from
    e.trans (congrArg (accs8 X E r) (show 100 * (0 : Fin 2).val + 2 * Scf.trips k0_t3_loop.lb k0_t3_loop.ub k0_t3_loop.st = 100 by
      rw [show Scf.trips k0_t3_loop.lb k0_t3_loop.ub k0_t3_loop.st = 50 from trips3]; rfl))]
  iapply Hk
  iexact H

/-- The second inner loop: the sums of all its tokens. -/
theorem loop4 {α : Type} {Q : α → sProp 𝕄} (r : ℕ) (t : Fin k0_t2_loop.trips) (a9 v14 : BitVec 32) (w0 w1 w2 w3 w4 w5 w6 w7 : FVec F S16 .f32)
    {kk : FVec F S16 .f32 × FVec F S16 .f32 × FVec F S16 .f32 × FVec F S16 .f32 × FVec F S16 .f32 × FVec F S16 .f32 × FVec F S16 .f32 × FVec F S16 .f32
      → Prog (TpuEff nD τ sig (Elt F) Λ₀ (thr d L).2) α} :
    SlotPts d L (slotOf t) 1 (slotVal X E r)
      ⊢ iprop((SlotPts d L (slotOf t) 1 (slotVal X E r) -∗ wp frame (wpE (defs₀ (F := F)) 𝒱₀ (thr d L) none) Set.univ (kk (accs8 X E r 200)) Q)
        -∗ wp frame (wpE (defs₀ (F := F)) 𝒱₀ (thr d L) none) Set.univ
            (Scf.Loop.for k0_t4_loop k0_t4_ok (accs8 X E r 100)
              (k0_t4_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1 t a9 v14 w0 w1 w2 w3 w4 w5 w6 w7) >>= kk) Q) := by
  iintro H Hk
  iapply (Scf.wp_for_bind frame (wpE (defs₀ (F := F)) 𝒱₀ (thr d L) none) Set.univ _ _ _ k0_t4_ok _ _
    (fun n acc => iprop(⌜acc = accs8 X E r (100 * (1 : Fin 2).val + 2 * n)⌝ ∗ SlotPts d L (slotOf t) 1 (slotVal X E r))) ?_) $$ [H]
  · intro n acc
    iintro ⟨%e, H⟩
    subst e
    iapply (trip4 d L X E r t v14 n a9 w0 w1 w2 w3 w4 w5 w6 w7) $$ H
  · isplitr
    · ipureintro; rfl
    · iexact H
  iintro %acc ⟨%e, H⟩
  rw [show acc = accs8 X E r 200 from
    e.trans (congrArg (accs8 X E r) (show 100 * (1 : Fin 2).val + 2 * Scf.trips k0_t4_loop.lb k0_t4_loop.ub k0_t4_loop.st = 200 by
      rw [show Scf.trips k0_t4_loop.lb k0_t4_loop.ub k0_t4_loop.st = 50 from trips4]; rfl))]
  iapply Hk
  iexact H

end Cert.Proof.Pool

end
-- ==== Proof.Row.lean ====
/-
One row of the main loop: its two halves arrive, their embeddings are summed into a line of the pooled
block, the slot is refilled, and every sixteenth row the block is written out.
-/
module

public import proofs.«01_k».proof.Proof.Trip

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords) (tq : PosShare TreeShare)
variable (X : S4096x2x100.Idx → BitVec 32) (E : S100000x128.Idx → F .f32)

/-- A half that is to hold row `n` of the tile, as far as the tile has such a row. -/
def Half (p : Fin 3) (j : Fin 2) (n : ℕ) : sProp 𝕄 :=
  if n < 128 then InFlight d L tq X E p j (base L + n) else Idle d L tq X E p j

/-- What the main loop holds besides the ring, before row `b`. -/
def Rest (b : ℕ) (O : CellTallies nD τ sig (HIx 1)) (W : Waits sig (HIx 1)) : sProp 𝕄 :=
  iprop(Acc d L X E (base L + (b - b % 16)) (b % 16) 0 ∗ Out d L X E (b - b % 16)
    ∗ semVal (thr d L, SemLoc.dma cc0_scoped1.sem) 0 ∗ Owed d L O W ∗ Transfers.MayWaits (thr d L) (default : HIx 1) O)

/-- The end of a row: every sixteenth row writes the block out. -/
theorem wp_drain {Q : PUnit → sProp 𝕄} (t : Fin k0_t2_loop.trips) (O : CellTallies nD τ sig (HIx 1)) (W : Waits sig (HIx 1)) :
    iprop(Acc d L X E (base L + (t.val - t.val % 16)) (t.val % 16 + 1) 0 ∗ Out d L X E (t.val - t.val % 16)
        ∗ semVal (thr d L, SemLoc.dma cc0_scoped1.sem) 0 ∗ Owed d L O W ∗ Transfers.MayWaits (thr d L) (default : HIx 1) O)
      ⊢ iprop((Rest d L X E (t.val + 1) O W -∗ Q ⟨⟩)
        -∗ wp frame (wpE (defs₀ (F := F)) 𝒱₀ (thr d L) none) Set.univ
            (if h : k0_cond2 t = 1#1 then
              Prog.lift (.enqueueDma aM (.here (oM.slice (Rect.unit (s := S4096x128) (k0_off42 L t) S16x128.size (k0_off42_inb L t h)) (fun _ => rfl))) (.dma cc0_scoped1.sem)
                  (Memref.isWhole_whole _).wordExact (View.wordExact_bits rfl) ⟨Or.inl rfl, trivial⟩)
                >>= fun _ => Prog.lift (.waitDma2 cc0_scoped1.sem aM (oM.slice (Rect.unit (s := S4096x128) (k0_off42 L t) S16x128.size (k0_off42_inb L t h)) (fun _ => rfl))
                  (Memref.isWhole_whole _).wordExact (View.wordExact_bits rfl))
                >>= fun _ => Pure.pure ⟨⟩
            else Pure.pure ⟨⟩) Q) := by
  have ht : t.val < 128 := lt_of_lt_of_eq t.isLt trips2
  unfold Rest
  by_cases h : k0_cond2 t = 1#1
  · have hc := (cond2_iff t).1 h
    rw [dif_pos h, show t.val - t.val % 16 = t.val - 15 by omega, show t.val % 16 + 1 = 16 by omega,
      show t.val + 1 - (t.val + 1) % 16 = t.val - 15 + 16 by omega, hc]
    iintro ⟨Ha, Ho, Hs, HO, #Hmw⟩ Hk
    iapply (wp_flush d L X E (t.val - 15) (by omega) (off42_eq L t hc) O W) $$ [Ha Ho Hs HO]
    · isplitl [Ha]; · iexact Ha
      isplitl [Ho]; · iexact Ho
      isplitl [Hs]; · iexact Hs
      isplitl [HO]; · iexact HO
      iexact Hmw
    iintro ⟨Ha, Ho, Hs, HO⟩
    rw [wp_pure]
    imodintro
    iapply Hk
    isplitl [Ha]; · iexact Ha
    isplitl [Ho]; · iexact Ho
    isplitl [Hs]; · iexact Hs
    isplitl [HO]; · iexact HO
    iexact Hmw
  · have hc : ¬ (t.val + 1) % 16 = 0 := fun hc => h ((cond2_iff t).2 hc)
    rw [dif_neg h, show t.val + 1 - (t.val + 1) % 16 = t.val - t.val % 16 by omega, show (t.val + 1) % 16 = t.val % 16 + 1 by omega]
    iintro H Hk
    rw [wp_pure]
    imodintro
    iapply Hk
    iexact H

/-- A row of the main loop. -/
theorem trip2 (hX : ∀ x, (X x).toNat < 100000) (t : Fin k0_t2_loop.trips) (O : CellTallies nD τ sig (HIx 1)) (W : Waits sig (HIx 1)) :
    iprop((Half d L tq X E (slotOf t) 0 t.val ∗ Half d L tq X E (slotOf t) 1 t.val) ∗ Rest d L X E t.val O W)
      ⊢ wp frame (wpE (defs₀ (F := F)) 𝒱₀ (thr d L) none) Set.univ
          (k0_t2_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1 t ())
          fun _ => iprop((Half d L tq X E (slotOf t) 0 (t.val + 3) ∗ Half d L tq X E (slotOf t) 1 (t.val + 3)) ∗ Rest d L X E (t.val + 1) O W) := by
  have ht : t.val < 128 := lt_of_lt_of_eq t.isLt trips2
  have hr : base L + t.val = base L + (t.val - t.val % 16) + t.val % 16 := by omega
  have hput : ∀ c, shapeCast S1x16 (accs X E (base L + t.val) c 200) shapeCasts_S16_S1x16
      = shapeCast S1x16 (accs X E (base L + (t.val - t.val % 16) + t.val % 16) c 200) shapeCasts_S16_S1x16 := fun c => by rw [← hr]
  unfold k0_t2_body
  simp only [k0_part7_eq_skeleton, k0_part8_eq_skeleton, k0_part9_eq_skeleton, k0_part10_eq_skeleton]
  unfold k0_part7_skel k0_part8_skel k0_part9_skel k0_part10_skel Half
  simp only [bind_assoc, pure_bind, if_pos ht]
  iintro ⟨⟨H0, H1⟩, Hrest⟩
  ihave Hr := (Entails.of_eq (show Rest d L X E t.val O W = iprop(Acc d L X E (base L + (t.val - t.val % 16)) (t.val % 16) 0 ∗ Out d L X E (t.val - t.val % 16)
    ∗ semVal (thr d L, SemLoc.dma cc0_scoped1.sem) 0 ∗ Owed d L O W ∗ Transfers.MayWaits (thr d L) (default : HIx 1) O) from rfl)) $$ Hrest
  icases Hr with ⟨Ha, Ho, Hs, HO, #Hmw⟩
  iapply (wp_arrive (off := k0_off8 t) (off'' := k0_off9 t) d L tq X E (slotOf t) 0 (base L + t.val) (off8_eq t) (off9_eq t) O W) $$ [H0 HO]
  · isplitl [H0]; · iexact H0
    isplitl [HO]; · iexact HO
    iexact Hmw
  unfold Filled
  iintro ⟨⟨Ht0, Hi0, Hb0⟩, Hsem0, HO⟩
  iapply (loop3 d L X E (base L + t.val) t _ _ _) $$ Hb0
  iintro Hb0
  iapply (wp_arrive (off := k0_off18 t) (off'' := k0_off19 t) d L tq X E (slotOf t) 1 (base L + t.val) (off18_eq t) (off19_eq t) O W) $$ [H1 HO]
  · isplitl [H1]; · iexact H1
    isplitl [HO]; · iexact HO
    iexact Hmw
  unfold Filled
  iintro ⟨⟨Ht1, Hi1, Hb1⟩, Hsem1, HO⟩
  iapply (loop4 d L X E (base L + t.val) t) $$ Hb1
  iintro Hb1
  iapply (wp_peek d L X E _ _ _) $$ Ha
  iintro %v0 Ha
  iapply (wp_put (off := k0_off28 t) d L X E (base L + (t.val - t.val % 16)) (t.val % 16) 0 (off28_eq t) (hput 0)) $$ Ha
  iintro Ha
  iapply (wp_peek d L X E _ _ _) $$ Ha
  iintro %v1 Ha
  iapply (wp_put (off := k0_off29 t) d L X E (base L + (t.val - t.val % 16)) (t.val % 16) 16 (rowOff t 16) (hput 16)) $$ Ha
  iintro Ha
  iapply (wp_peek d L X E _ _ _) $$ Ha
  iintro %v2 Ha
  iapply (wp_put (off := k0_off30 t) d L X E (base L + (t.val - t.val % 16)) (t.val % 16) 32 (rowOff t 32) (hput 32)) $$ Ha
  iintro Ha
  iapply (wp_peek d L X E _ _ _) $$ Ha
  iintro %v3 Ha
  iapply (wp_put (off := k0_off31 t) d L X E (base L + (t.val - t.val % 16)) (t.val % 16) 48 (rowOff t 48) (hput 48)) $$ Ha
  iintro Ha
  iapply (wp_peek d L X E _ _ _) $$ Ha
  iintro %v4 Ha
  iapply (wp_put (off := k0_off32 t) d L X E (base L + (t.val - t.val % 16)) (t.val % 16) 64 (rowOff t 64) (hput 64)) $$ Ha
  iintro Ha
  iapply (wp_peek d L X E _ _ _) $$ Ha
  iintro %v5 Ha
  iapply (wp_put (off := k0_off33 t) d L X E (base L + (t.val - t.val % 16)) (t.val % 16) 80 (rowOff t 80) (hput 80)) $$ Ha
  iintro Ha
  iapply (wp_peek d L X E _ _ _) $$ Ha
  iintro %v6 Ha
  iapply (wp_put (off := k0_off34 t) d L X E (base L + (t.val - t.val % 16)) (t.val % 16) 96 (rowOff t 96) (hput 96)) $$ Ha
  iintro Ha
  iapply (wp_peek d L X E _ _ _) $$ Ha
  iintro %v7 Ha
  iapply (wp_put (off := k0_off35 t) d L X E (base L + (t.val - t.val % 16)) (t.val % 16) 112 (rowOff t 112) (hput 112)) $$ Ha
  iintro Ha
  ihave Ha := (Acc_next d L X E _ _) $$ Ha
  by_cases hc : t.val + 3 < 128
  · simp only [dif_pos ((cond1_iff t).2 hc), if_pos hc]
    iapply (wp_fetch (off := k0_off36 t) (off' := k0_off37 t) (off'' := k0_off38 t) d L tq X E hX (slotOf t) 0 ⟨t.val + 3, hc⟩
      (off36_eq t) (k0_off37_eq t) (off38_eq t)) $$ [Ht0 Hi0 Hb0 Hsem0]
    · unfold Idle
      isplitl [Ht0]; · iexact Ht0
      isplitl [Hi0]; · iexact Hi0
      isplitl [Hb0]; · iexists _; iexact Hb0
      iexact Hsem0
    iintro H0
    iapply (wp_fetch (off := k0_off39 t) (off' := k0_off40 t) (off'' := k0_off41 t) d L tq X E hX (slotOf t) 1 ⟨t.val + 3, hc⟩
      (off39_eq t) (k0_off40_eq t) (off41_eq t)) $$ [Ht1 Hi1 Hb1 Hsem1]
    · unfold Idle
      isplitl [Ht1]; · iexact Ht1
      isplitl [Hi1]; · iexact Hi1
      isplitl [Hb1]; · iexists _; iexact Hb1
      iexact Hsem1
    iintro H1
    iapply (wp_drain d L X E t O W) $$ [Ha Ho Hs HO]
    · isplitl [Ha]; · iexact Ha
      isplitl [Ho]; · iexact Ho
      isplitl [Hs]; · iexact Hs
      isplitl [HO]; · iexact HO
      iexact Hmw
    iintro Hrest
    isplitr [Hrest]
    · isplitl [H0]; · iexact H0
      iexact H1
    · iexact Hrest
  · simp only [dif_neg (fun h => hc ((cond1_iff t).1 h)), if_neg hc]
    iapply (wp_drain d L X E t O W) $$ [Ha Ho Hs HO]
    · isplitl [Ha]; · iexact Ha
      isplitl [Ho]; · iexact Ho
      isplitl [Hs]; · iexact Hs
      isplitl [HO]; · iexact HO
      iexact Hmw
    iintro Hrest
    unfold Idle
    isplitr [Hrest]
    · isplitl [Ht0 Hi0 Hb0 Hsem0]
      · isplitl [Ht0]; · iexact Ht0
        isplitl [Hi0]; · iexact Hi0
        isplitl [Hb0]; · iexists _; iexact Hb0
        iexact Hsem0
      · isplitl [Ht1]; · iexact Ht1
        isplitl [Hi1]; · iexact Hi1
        isplitl [Hb1]; · iexists _; iexact Hb1
        iexact Hsem1
    · iexact Hrest

end Cert.Proof.Pool

end
-- ==== Proof.Ring.lean ====
/-
The ring of three slots: how the tile's shares, buffer and semaphores make it up, the loop that starts its
first gathers, and the main loop.
-/
module

public import proofs.«01_k».proof.Proof.Row

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords) (tq : PosShare TreeShare)
variable (X : S4096x2x100.Idx → BitVec 32) (E : S100000x128.Idx → F .f32)

/-- A resource for both halves of every slot. -/
def ring (Φ : Fin 3 → Fin 2 → sProp 𝕄) : sProp 𝕄 := bigSep Finset.univ fun p => iprop(Φ p 0 ∗ Φ p 1)

omit [FloatOps F] [Named F] in
/-- The ring, half by half. -/
theorem ring_eq (Φ : Fin 3 → Fin 2 → sProp 𝕄) : ring Φ = bigSep Finset.univ fun x : Fin 3 × Fin 2 => Φ x.1 x.2 := by
  rw [bigSep_univ_prod]
  exact bigSep_congr fun p _ => (BI.bigSep_fin_two (fun j => Φ p j)).symm

omit [FloatOps F] [Named F] in
/-- Two resources for every half. -/
theorem ring_sep (Φ Ψ : Fin 3 → Fin 2 → sProp 𝕄) : ring (fun p j => iprop(Φ p j ∗ Ψ p j)) = iprop(ring Φ ∗ ring Ψ) := by
  rw [ring_eq, ring_eq, ring_eq]
  exact bigSep_sep _ _ _

omit [FloatOps F] [Named F] in
/-- One slot, and the other two. -/
theorem ring_slot (Φ : Fin 3 → Fin 2 → sProp 𝕄) (p : Fin 3) :
    ring Φ = iprop((Φ p 0 ∗ Φ p 1) ∗ bigSep (Finset.univ.erase p) fun p => iprop(Φ p 0 ∗ Φ p 1)) :=
  bigSep_univ_split p

omit [FloatOps F] [Named F] in
/-- The other two slots, where two resources agree. -/
theorem ring_others {Φ Ψ : Fin 3 → Fin 2 → sProp 𝕄} {p : Fin 3} (h : ∀ p' j, p' ≠ p → Φ p' j = Ψ p' j) :
    (bigSep (Finset.univ.erase p) fun p => iprop(Φ p 0 ∗ Φ p 1) : sProp 𝕄) = bigSep (Finset.univ.erase p) fun p => iprop(Ψ p 0 ∗ Ψ p 1) :=
  bigSep_congr fun p' hp => by rw [h p' 0 (Finset.ne_of_mem_erase hp), h p' 1 (Finset.ne_of_mem_erase hp)]

omit [FloatOps F] [Named F] in
/-- Rings that agree half by half. -/
theorem ring_congr {Φ Ψ : Fin 3 → Fin 2 → sProp 𝕄} (h : ∀ p j, Φ p j = Ψ p j) : ring Φ = ring Ψ := by
  rw [show Φ = Ψ from funext fun p => funext fun j => h p j]

/-! ## What the ring is made of -/

/-- The eighth shares: six for the halves, two over. -/
theorem leaves_ring {ℓ : Loc nD τ sig} (q : PosShare TreeShare) (f : Buf (Elt F) ℓ) :
    (ℓ ↦{q} f : sProp 𝕄)
      = iprop(ring (fun p j => ℓ ↦{leaf 3 q (shareIx p j)} f) ∗ ((ℓ ↦{leaf 3 q 6} f) ∗ (ℓ ↦{leaf 3 q 7} f))) := by
  have hu : (Finset.univ : Finset (Fin (2 ^ 3)))
      = (Finset.univ : Finset (Fin 3 × Fin 2)).map ⟨fun x => shareIx x.1 x.2, by decide⟩ ∪ {6, 7} := by decide
  rw [pointsTo_leaves Finset.univ f 3 q, hu, bigSep_union (by decide), bigSep_map, ring_eq,
    show ({6, 7} : Finset (Fin (2 ^ 3))) = insert 6 {7} from rfl, bigSep_insert (by decide), bigSep_singleton]
  rfl

/-- The halves are disjoint. -/
theorem slots_disjoint : ∀ x ∈ (Finset.univ : Finset (Fin 3 × Fin 2)), ∀ y ∈ (Finset.univ : Finset (Fin 3 × Fin 2)), x ≠ y →
    Disjoint (slotSet x.1 x.2) (slotSet y.1 y.2) := by
  rintro ⟨p, j⟩ - ⟨p', j'⟩ - h
  refine Finset.disjoint_left.mpr fun z hz hz' => h ?_
  rw [mem_slotSet] at hz hz'
  exact Prod.ext (Fin.ext (hz.1.symm.trans hz'.1)) (Fin.ext (hz.2.symm.trans hz'.2))

/-- The halves are the ring. -/
theorem slots_cover : (Finset.univ : Finset (Fin 3 × Fin 2)).biUnion (fun x => slotSet x.1 x.2) = Finset.univ := by
  ext z
  refine ⟨fun _ => Finset.mem_univ _, fun _ => Finset.mem_biUnion.mpr ⟨(⟨(z 0).val, (z 0).isLt⟩, ⟨(z 1).val, (z 1).isLt⟩), Finset.mem_univ _, ?_⟩⟩
  rw [mem_slotSet]; exact ⟨rfl, rfl⟩

/-- The buffer taken apart. -/
theorem slots_split (f : Buf (Elt F) (bM.view.loc (thr d L))) :
    ((bM.view.loc (thr d L) : Loc nD τ sig) ↦{fullShare} f : sProp 𝕄) ⊢ ring fun p j => iprop(∃ f, SlotPts d L p j f) := by
  rw [ring_eq, ← slots_cover,
    pointsTo_biUnion (ℓ := bM.view.loc (thr d L)) Finset.univ (fun x : Fin 3 × Fin 2 => slotSet x.1 x.2) slots_disjoint]
  refine bigSep_mono fun x _ => ?_
  show (SlotPts d L x.1 x.2 f : sProp 𝕄) ⊢ iprop(∃ f, SlotPts d L x.1 x.2 f)
  iintro H
  iexists f
  iexact H

/-- The buffer put together. -/
theorem slots_join : (ring fun p j => iprop(∃ f, SlotPts (F := F) d L p j f) : sProp 𝕄)
    ⊢ iprop(∃ f, (bM.view.loc (thr d L) : Loc nD τ sig) ↦{fullShare} (f : Buf (Elt F) (bM.view.loc (thr d L)))) := by
  rw [ring_eq]
  refine (bigSep_exists_pi Finset.univ (fun (x : Fin 3 × Fin 2) (f : Buf (Elt F) (bM.view.loc (thr d L))) => SlotPts d L x.1 x.2 f)).trans ?_
  iintro ⟨%fs, H⟩
  ihave H' := (pointsTo_biUnion_join (ℓ := bM.view.loc (thr d L)) (q := fullShare) (Val := Elt F) Finset.univ (fun x : Fin 3 × Fin 2 => slotSet x.1 x.2)
    fs (fs (0, 0)) slots_disjoint) $$ H
  icases H' with ⟨%g, -, Hg⟩
  rw [slots_cover]
  iexists g; iexact Hg

/-- A ring that holds nothing in particular, taken into its parts. -/
theorem ring_idle : ring (Idle d L tq X E)
    = iprop(ring (TabSh d L tq E) ∗ ring (TokSh d L X) ∗ ring (fun p j => iprop(∃ f, SlotPts (F := F) d L p j f))
        ∗ ring (fun p j => semVal (thr d L, SemLoc.dma (cell p j)) 0)) := by
  rw [← ring_sep, ← ring_sep, ← ring_sep]
  rfl

/-! ## The first gathers -/

/-- The loop that starts the gathers of the first three rows. -/
theorem loop1 {α : Type} {Q : α → sProp 𝕄} (hX : ∀ x, (X x).toNat < 100000)
    {kk : Unit → Prog (TpuEff nD τ sig (Elt F) Λ₀ (thr d L).2) α} :
    ring (Idle d L tq X E)
      ⊢ iprop((ring (fun p j => Half d L tq X E p j p.val) -∗ wp frame (wpE (defs₀ (F := F)) 𝒱₀ (thr d L) none) Set.univ (kk ()) Q)
        -∗ wp frame (wpE (defs₀ (F := F)) 𝒱₀ (thr d L) none) Set.univ
            (Scf.Loop.for k0_t1_loop k0_t1_ok ⟨⟩
              (k0_t1_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1) >>= kk) Q) := by
  have e3 : Scf.trips k0_t1_loop.lb k0_t1_loop.ub k0_t1_loop.st = 3 := trips1
  iintro H Hk
  iapply (Scf.wp_for_bind frame (wpE (defs₀ (F := F)) 𝒱₀ (thr d L) none) Set.univ _ _ _ k0_t1_ok _ _
    (fun n _ => ring fun p j => if p.val < n then Half d L tq X E p j p.val else Idle d L tq X E p j) ?_) $$ [H]
  · intro t acc
    have ht : t.val < 3 := lt_of_lt_of_eq t.isLt e3
    have h128 : t.val < 128 := by omega
    rw [ring_slot _ (⟨t.val, ht⟩ : Fin 3),
      ring_slot (fun p j => if p.val < t.val + 1 then Half d L tq X E p j p.val else Idle d L tq X E p j) (⟨t.val, ht⟩ : Fin 3),
      ring_others (Φ := fun p j => if p.val < t.val then Half d L tq X E p j p.val else Idle d L tq X E p j)
        (Ψ := fun p j => if p.val < t.val + 1 then Half d L tq X E p j p.val else Idle d L tq X E p j) (p := ⟨t.val, ht⟩)
        fun p' j hne => by
          have : p'.val ≠ t.val := fun h => hne (Fin.ext h)
          by_cases h : p'.val < t.val
          · rw [if_pos h, if_pos (by omega)]
          · rw [if_neg h, if_neg (by omega)]]
    simp only [Nat.lt_irrefl, if_false, Nat.lt_succ_self, if_true]
    unfold k0_t1_body Half
    simp only [if_pos h128]
    iintro ⟨⟨H0, H1⟩, Hr⟩
    iapply (wp_fetch (off := k0_off2 t) (off' := k0_off3 t) (off'' := k0_off4 t) d L tq X E hX ⟨t.val, ht⟩ 0 ⟨t.val, h128⟩
      (k0_off2_eq t) (k0_off3_eq t) (k0_off4_eq t)) $$ H0
    iintro H0
    iapply (wp_fetch (off := k0_off5 t) (off' := k0_off6 t) (off'' := k0_off7 t) d L tq X E hX ⟨t.val, ht⟩ 1 ⟨t.val, h128⟩
      (k0_off5_eq t) (k0_off6_eq t) (k0_off7_eq t)) $$ H1
    iintro H1
    rw [wp_pure]
    imodintro
    isplitr [Hr]
    · isplitl [H0]; · iexact H0
      iexact H1
    · iexact Hr
  · iexact H
  iintro %_ H
  iapply Hk
  iapply (Entails.of_eq (ring_congr fun p j => if_pos (lt_of_lt_of_eq p.isLt e3.symm)))
  iexact H

/-! ## The main loop -/

/-- The row that slot `p` holds before row `b`: the first one from `b` on that falls to it. -/
def rowOf (p : Fin 3) (b : ℕ) : ℕ := b + (p.val + 3 - b % 3) % 3

/-- The loop over the tile's 128 rows. -/
theorem loop2 {α : Type} {Q : α → sProp 𝕄} (hX : ∀ x, (X x).toNat < 100000) (O : CellTallies nD τ sig (HIx 1)) (W : Waits sig (HIx 1))
    {kk : Unit → Prog (TpuEff nD τ sig (Elt F) Λ₀ (thr d L).2) α} :
    iprop(ring (fun p j => Half d L tq X E p j p.val) ∗ Rest d L X E 0 O W)
      ⊢ iprop((iprop(ring (Idle d L tq X E) ∗ Rest d L X E 128 O W) -∗ wp frame (wpE (defs₀ (F := F)) 𝒱₀ (thr d L) none) Set.univ (kk ()) Q)
        -∗ wp frame (wpE (defs₀ (F := F)) 𝒱₀ (thr d L) none) Set.univ
            (Scf.Loop.for k0_t2_loop k0_t2_ok ⟨⟩
              (k0_t2_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1) >>= kk) Q) := by
  have e128 : Scf.trips k0_t2_loop.lb k0_t2_loop.ub k0_t2_loop.st = 128 := trips2
  iintro ⟨H, HR⟩ Hk
  iapply (Scf.wp_for_bind frame (wpE (defs₀ (F := F)) 𝒱₀ (thr d L) none) Set.univ _ _ _ k0_t2_ok _ _
    (fun n _ => iprop(ring (fun p j => Half d L tq X E p j (rowOf p n)) ∗ Rest d L X E n O W)) ?_) $$ [H HR]
  · intro t acc
    have e0 : rowOf (slotOf t) t.val = t.val := by
      show t.val + (t.val % 3 + 3 - t.val % 3) % 3 = t.val; omega
    have e1 : rowOf (slotOf t) (t.val + 1) = t.val + 3 := by
      show t.val + 1 + (t.val % 3 + 3 - (t.val + 1) % 3) % 3 = t.val + 3; omega
    rw [ring_slot _ (slotOf t), ring_slot (fun p j => Half d L tq X E p j (rowOf p (t.val + 1))) (slotOf t),
      ring_others (Φ := fun p j => Half d L tq X E p j (rowOf p t.val)) (Ψ := fun p j => Half d L tq X E p j (rowOf p (t.val + 1))) (p := slotOf t)
        fun p' j hne => by
          have hp := p'.isLt
          have : p'.val ≠ t.val % 3 := fun h => hne (Fin.ext h)
          exact congrArg (Half d L tq X E p' j) (show t.val + (p'.val + 3 - t.val % 3) % 3 = t.val + 1 + (p'.val + 3 - (t.val + 1) % 3) % 3 by omega)]
    simp only [e0, e1]
    iintro ⟨⟨Hp, Ho⟩, HR⟩
    ihave Hw := (trip2 d L tq X E hX t O W) $$ [Hp HR]
    · isplitl [Hp]; · iexact Hp
      iexact HR
    iapply (wp_wand frame _ _) $$ Hw
    iintro %_ ⟨Hp, HR⟩
    isplitr [HR]
    · isplitl [Hp]; · iexact Hp
      iexact Ho
    · iexact HR
  · isplitl [H]
    · iapply (Entails.of_eq (ring_congr fun p j => congrArg (Half d L tq X E p j) (show p.val = 0 + (p.val + 3 - 0 % 3) % 3 by have := p.isLt; omega)))
      iexact H
    · iexact HR
  iintro %_ ⟨H, HR⟩
  iapply Hk
  rw [e128]
  isplitl [H]
  · iapply (Entails.of_eq (ring_congr fun p j => if_neg (show ¬ rowOf p 128 < 128 by unfold rowOf; omega)))
    iexact H
  · iexact HR

end Cert.Proof.Pool

end
-- ==== Proof.Tile.lean ====
/-
The whole task of a tile, at a symbolic pair of SparseCore and vector subcore: from its shares of the tokens
and the table and its rows of the output, to those rows pooled.
-/
module

public import proofs.«01_k».proof.Proof.Ring

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords) (tq xq : PosShare TreeShare)
variable (X : S4096x2x100.Idx → BitVec 32) (E : S100000x128.Idx → F .f32)

/-! ## The tile's own semaphores and buffers -/

/-- The ring's semaphores, as cells of the machine. -/
def ringCell : Fin 3 × Fin 2 ↪ GSem nD τ sig :=
  ⟨fun x => (thr d L, .dma (cell x.1 x.2)), fun x y h => by
    have h' : cell x.1 x.2 = cell y.1 y.2 := SemLoc.dma.inj (Prod.ext_iff.mp h).2
    exact (show ∀ x y : Fin 3 × Fin 2, cell x.1 x.2 = cell y.1 y.2 → x = y by decide) x y h'⟩

/-- The tile's semaphores: the two of the copies, the ring's six, and the rest. -/
theorem ownSems0_tile :
    (ownSems0 (thr d L) : sProp 𝕄)
      = iprop(semVal (thr d L, SemLoc.dma cc0_scoped0.sem) 0 ∗ semVal (thr d L, SemLoc.dma cc0_scoped1.sem) 0
          ∗ ring (fun p j => semVal (thr d L, SemLoc.dma (cell p j)) 0)
          ∗ bigSep ((((ownCells (thr d L)).erase (thr d L, SemLoc.dma cc0_scoped0.sem)).erase (thr d L, SemLoc.dma cc0_scoped1.sem)) \ Finset.univ.map (ringCell d L))
              fun g => semVal g 0) := by
  have hs : ∀ c : DmaSem sig, (SemLoc.dma c : SemLoc sig).isScoped .scVector = true → ((thr d L, SemLoc.dma c) : GSem nD τ sig) ∈ ownCells (thr d L) :=
    fun c h => mem_ownCells.mpr ⟨rfl, h⟩
  have h6 : ∀ x : Fin 3 × Fin 2, (SemLoc.dma (cell x.1 x.2) : SemLoc sig).isScoped .scVector = true ∧ cell x.1 x.2 ≠ cc0_scoped0.sem
      ∧ cell x.1 x.2 ≠ cc0_scoped1.sem := by decide
  have hne : ∀ {c c' : DmaSem sig}, c ≠ c' → ((thr d L, SemLoc.dma c) : GSem nD τ sig) ≠ (thr d L, SemLoc.dma c') :=
    fun h e => h (SemLoc.dma.inj (Prod.ext_iff.mp e).2)
  unfold SparseCore.Cfg.ownSems0
  rw [SparseCore.bigSep_erase' (hs cc0_scoped0.sem (by decide)),
    SparseCore.bigSep_erase' (Finset.mem_erase.mpr ⟨hne (by decide), hs cc0_scoped1.sem (by decide)⟩), ring_eq,
    bigSep_sdiff_split (s := ((ownCells (thr d L)).erase (thr d L, SemLoc.dma cc0_scoped0.sem)).erase (thr d L, SemLoc.dma cc0_scoped1.sem))
      (t := Finset.univ.map (ringCell d L)) ?_, bigSep_map]
  · rfl
  · intro g hg
    obtain ⟨x, -, rfl⟩ := Finset.mem_map.mp hg
    exact Finset.mem_erase.mpr ⟨hne (h6 x).2.2, Finset.mem_erase.mpr ⟨hne (h6 x).2.1, hs _ (h6 x).1⟩⟩

/-- The tile's buffers: its tokens, its ring, its block of pooled rows, and the rest. -/
theorem ownBufs_tile :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (thr d L).2).erase ((thr d L).2.devRef cc0_scratch0)).erase ((thr d L).2.devRef cc0_scratch1)).erase ((thr d L).2.devRef cc0_scratch2))
              fun b => iprop(∃ f, ((d, b) : Loc nD τ sig) ↦{fullShare} f)) := by
  have hne : ∀ {b b' : Ref sig .scVector}, b ≠ b' → (thr d L).2.devRef b ≠ (thr d L).2.devRef b' := fun h e => h (Proc.devRef_injective _ e)
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨hne (by decide),
      SparseCore.Cfg.mem_ownRefs_of_owner (p := (thr d L).2) (b := (thr d L).2.devRef cc0_scratch1) rfl⟩),
    SparseCore.bigSep_erase' (Finset.mem_erase.mpr ⟨hne (by decide), Finset.mem_erase.mpr ⟨hne (by decide),
      SparseCore.Cfg.mem_ownRefs_of_owner (p := (thr d L).2) (b := (thr d L).2.devRef cc0_scratch2) rfl⟩⟩)]

/-! ## The task -/

/-- The block of pooled rows before any is in it. -/
theorem Acc_start (r : ℕ) (f : Buf (Elt F) (aM.view.loc (thr d L))) :
    ((aM.view.loc (thr d L) : Loc nD τ sig) ↦{fullShare} f : sProp 𝕄) ⊢ Acc d L X E r 0 0 := by
  unfold Acc
  iintro H
  iexists f
  isplitr
  · ipureintro; intro x hx; omega
  · iexact H

/-- The output before any row of it is pooled. -/
theorem Out_start (f : Buf (Elt F) (oM.view.loc (thr d L))) :
    ((oM.view.loc (thr d L) : Loc nD τ sig) ↦[outSet L]{fullShare} f : sProp 𝕄) ⊢ Out d L X E 0 := by
  unfold Out
  iintro H
  iexists f
  isplitr
  · ipureintro; intro x h1 h2; omega
  · iexact H

/-- The output once all 128 rows are pooled. -/
theorem Out_all : Out d L X E 128 ⊢ ((oM.view.loc (thr d L) : Loc nD τ sig) ↦[outSet L]{fullShare} (pooled X E : Buf (Elt F) (oM.view.loc (thr d L))) : sProp 𝕄) := by
  unfold Out
  iintro ⟨%f, %hf, H⟩
  iapply (Entails.of_eq (pointsTo_congr (ℓ := oM.view.loc (thr d L)) (q := fullShare) (I := outSet L) (f := f) (g := pooled X E) fun x hx => by
    obtain ⟨h1, h2⟩ := (Finset.mem_filter.mp hx).2
    exact hf x h1 h2))
  iexact H

/-- The task of a tile, over the buffers it uses. -/
theorem wp_tile (hX : ∀ x, (X x).toNat < 100000) (O : CellTallies nD τ sig (HIx 1)) (W : Waits sig (HIx 1)) (f₀ : Buf (Elt F) (oM.view.loc (thr d L)))
    {Q : PUnit → sProp 𝕄} :
    iprop((((xM.view.loc (thr d L) : Loc nD τ sig) ↦{xq} (X : Buf (Elt F) (xM.view.loc (thr d L))))
          ∗ ((tM.view.loc (thr d L) : Loc nD τ sig) ↦{tq} (E : Buf (Elt F) (tM.view.loc (thr d L))))
          ∗ ((oM.view.loc (thr d L) : Loc nD τ sig) ↦[outSet L]{fullShare} f₀))
        ∗ ((∃ f, (thr d L).loc cc0_scratch0 ↦{fullShare} f) ∗ (∃ f, (thr d L).loc cc0_scratch1 ↦{fullShare} f) ∗ (∃ f, (thr d L).loc cc0_scratch2 ↦{fullShare} f))
        ∗ (semVal (thr d L, SemLoc.dma cc0_scoped0.sem) 0 ∗ semVal (thr d L, SemLoc.dma cc0_scoped1.sem) 0
          ∗ ring (fun p j => semVal (thr d L, SemLoc.dma (cell p j)) 0))
        ∗ Owed d L O W ∗ Transfers.MayWaits (thr d L) (default : HIx 1) O)
      ⊢ iprop((iprop((((xM.view.loc (thr d L) : Loc nD τ sig) ↦{xq} (X : Buf (Elt F) (xM.view.loc (thr d L))))
          ∗ ((tM.view.loc (thr d L) : Loc nD τ sig) ↦{tq} (E : Buf (Elt F) (tM.view.loc (thr d L))))
          ∗ ((oM.view.loc (thr d L) : Loc nD τ sig) ↦[outSet L]{fullShare} (pooled X E : Buf (Elt F) (oM.view.loc (thr d L)))))
        ∗ ((∃ f, (thr d L).loc cc0_scratch0 ↦{fullShare} f) ∗ (∃ f, (thr d L).loc cc0_scratch1 ↦{fullShare} f) ∗ (∃ f, (thr d L).loc cc0_scratch2 ↦{fullShare} f))
        ∗ (semVal (thr d L, SemLoc.dma cc0_scoped0.sem) 0 ∗ semVal (thr d L, SemLoc.dma cc0_scoped1.sem) 0
          ∗ ring (fun p j => semVal (thr d L, SemLoc.dma (cell p j)) 0))
        ∗ Owed d L O W) -∗ Q ⟨⟩)
        -∗ wp frame (wpE (defs₀ (F := F)) 𝒱₀ (thr d L) none) Set.univ
            (cc0_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1) Q) := by
  simp only [cc0_body_eq_skeleton]; unfold cc0_body_skel
  iintro ⟨⟨Hx, Ht, Ho⟩, ⟨⟨%fi, Hi⟩, ⟨%fb, Hb⟩, ⟨%fa, Ha⟩⟩, ⟨Hs0, Hs1, Hsr⟩, HO, #Hmw⟩ Hk
  iapply (wp_tokens (off := k0_off1 L) d L X xq (k0_off1_eq L) O W) $$ [Hx Hi Hs0 HO]
  · isplitl [Hx]; · iexact Hx
    isplitl [Hi]; · iexists fi; iexact Hi
    isplitl [Hs0]; · iexact Hs0
    isplitl [HO]; · iexact HO
    iexact Hmw
  iintro ⟨Hx, Hi, Hs0, HO⟩
  ihave Hi2 := (Entails.of_eq (leaves_ring (ℓ := iM.view.loc (thr d L)) fullShare (tileToks X L))) $$ Hi
  icases Hi2 with ⟨Hi, Hipark⟩
  ihave Ht2 := (Entails.of_eq (leaves_ring (ℓ := tM.view.loc (thr d L)) tq E)) $$ Ht
  icases Ht2 with ⟨Ht, Htpark⟩
  ihave Hb2 := (slots_split d L fb) $$ Hb
  iapply (loop1 d L tq X E hX) $$ [Ht Hi Hb2 Hsr]
  · rw [ring_idle]
    isplitl [Ht]; · iexact Ht
    isplitl [Hi]; · iexact Hi
    isplitl [Hb2]; · iexact Hb2
    iexact Hsr
  iintro Hring
  iapply (loop2 d L tq X E hX O W) $$ [Hring Ha Ho Hs1 HO]
  · isplitl [Hring]; · iexact Hring
    unfold Rest
    isplitl [Ha]; · iapply (Acc_start d L X E _ fa) $$ Ha
    isplitl [Ho]; · iapply (Out_start d L X E f₀) $$ Ho
    isplitl [Hs1]; · iexact Hs1
    isplitl [HO]; · iexact HO
    iexact Hmw
  rw [ring_idle]
  unfold Rest
  iintro ⟨⟨Ht, Hi, Hb, Hsr⟩, Ha, Ho, Hs1, HO, -⟩
  rw [wp_pure]
  imodintro
  iapply Hk
  isplitl [Hx Ht Htpark Ho]
  · isplitl [Hx]; · iexact Hx
    isplitl [Ht Htpark]
    · iapply (Entails.of_eq (leaves_ring (ℓ := tM.view.loc (thr d L)) tq E).symm)
      isplitl [Ht]; · iexact Ht
      iexact Htpark
    iapply (Out_all d L X E) $$ Ho
  isplitl [Hi Hipark Hb Ha]
  · isplitl [Hi Hipark]
    · iexists (tileToks X L)
      iapply (Entails.of_eq (leaves_ring (ℓ := iM.view.loc (thr d L)) fullShare (tileToks X L)).symm)
      isplitl [Hi]; · iexact Hi
      iexact Hipark
    isplitl [Hb]; · iapply (slots_join d L) $$ Hb
    unfold Acc
    icases Ha with ⟨%f, -, Ha⟩
    iexists f
    iexact Ha
  isplitl [Hs0 Hs1 Hsr]
  · isplitl [Hs0]; · iexact Hs0
    isplitl [Hs1]; · iexact Hs1
    iexact Hsr
  iexact HO

end Cert.Proof.Pool

end
-- ==== Proof.Launch.lean ====
/-
The SparseCore call as the launch sees it: what each task is handed and hands back, that every task keeps to it, and the
call's operands split among the two SparseCores and their sixteen tiles.
-/
module

public import proofs.«01_k».proof.Proof.Tile
public import Idealize.ShloMosaic.Lib.SparseCore.Quiescent
public import Idealize.ShloMosaic.Lib.StableHlo.Run
public import Idealize.ShloMosaic.Lib.Pipeline.Kit

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The program as the launch theorem sees it -/

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH 𝕄 := embL

/-! ## The buffers the call takes -/

abbrev xLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

/-- The pair of coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of what every tile reads: the full share halved five times, by SparseCore and then by subcore. -/
def shareOf (L : grid0.Coords) : PosShare TreeShare :=
  leaf 4 (leaf 1 fullShare (⟨(L 0).val, (L 0).isLt⟩ : Fin 2)) (⟨(L 1).val, (L 1).isLt⟩ : Fin 16)

variable (X : Dev nD → S4096x2x100.Idx → BitVec 32) (E : Dev nD → S100000x128.Idx → F .f32) (o : Dev nD → S4096x128.Idx → F .f32)

/-- What a task is handed: its shares of the tokens and the table, and its rows of the output, at contents `f`. -/
def TileRes (d : Dev nD) (L : grid0.Coords) (f : S4096x128.Idx → F .f32) : sProp 𝕄 :=
  iprop((xLoc d ↦{shareOf L} (X d : Buf (Elt F) (xLoc d))) ∗ (tLoc d ↦{shareOf L} (E d : Buf (Elt F) (tLoc d)))
    ∗ (oLoc d ↦[outSet L]{fullShare} (f : Buf (Elt F) (oLoc d))))

instance TileRes_storable (d : Dev nD) (L : grid0.Coords) (f : S4096x128.Idx → F .f32) :
    BI.Storable (upEmb : UEmb _ 𝕄) (TileRes X E d L f) := by unfold TileRes; infer_instance

/-- What a SparseCore is handed: what its tasks are. -/
def CoreRes (d : Dev nD) (c : Fin (grid0.bound 0)) (f : S4096x128.Idx → F .f32) : sProp 𝕄 :=
  bigSep Finset.univ fun i : Fin (grid0.bound 1) => TileRes X E d (coordsV c i) f

instance CoreRes_storable (d : Dev nD) (c : Fin (grid0.bound 0)) (f : S4096x128.Idx → F .f32) :
    BI.Storable (upEmb : UEmb _ 𝕄) (CoreRes X E d c f) := by unfold CoreRes; infer_instance

/-- The call takes the tokens, the table and the output, each task its part of them, and brings them back with the
    output pooled. -/
def P : (K (F := F)).Pay (nD := nD) (Val := Elt F) (Name := ℕ) (U := UU) where
  st := fun q d c => match q with | 0 => CoreRes X E d ⟨c.val, c.isLt⟩ (o d)
  dn := fun q d c => match q with | 0 => CoreRes X E d ⟨c.val, c.isLt⟩ (pooled (X d) (E d))
  go := fun q d c i => match q with | 0 => TileRes X E d (coordsV ⟨c.val, c.isLt⟩ ⟨i.val, i.isLt⟩) (o d)
  td := fun q d c i => match q with | 0 => TileRes X E d (coordsV ⟨c.val, c.isLt⟩ ⟨i.val, i.isLt⟩) (pooled (X d) (E d))
  x := fun _ _ => iprop(emp)

instance P_storable : (P X E o).IsStorable where
  st q d c := match q with | 0 => CoreRes_storable X E d ⟨c.val, c.isLt⟩ (o d)
  dn q d c := match q with | 0 => CoreRes_storable X E d ⟨c.val, c.isLt⟩ (pooled (X d) (E d))
  go q d c i := match q with | 0 => TileRes_storable X E d (coordsV ⟨c.val, c.isLt⟩ ⟨i.val, i.isLt⟩) (o d)
  td q d c i := match q with | 0 => TileRes_storable X E d (coordsV ⟨c.val, c.isLt⟩ ⟨i.val, i.isLt⟩) (pooled (X d) (E d))

/-! ## The task -/

/-- The task on a tile, over all of the tile's storage. -/
theorem tile_body (d : Dev nD) (L : grid0.Coords) (hX : ∀ x, (X d x).toNat < 100000) (f : S4096x128.Idx → F .f32)
    (O : CellTallies nD τ sig (HIx 1)) (W : Waits sig (HIx 1)) (hO : ∀ g, O g none = 0) :
    iprop(levAts (K (F := F)).L (K (F := F)).lev ∗ emp ∗ TileRes X E d L f
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xM (Memref.isWhole_whole _) tM (Memref.isWhole_whole _) oM (Memref.isWhole_whole _)
                iM (Memref.isWhole_whole _) bM (Memref.isWhole_whole _) aM (Memref.isWhole_whole _)
                cc0_scratch3 cc0_scoped0 cc0_scoped1)
          fun _ => iprop(TileRes X E d L (pooled (X d) (E d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_tile, ownBufs_tile]
  unfold TileRes
  iintro ⟨#Hlv, -, Hres, ⟨Hi, Hb, Ha, Hbufs⟩, ⟨Hs0, Hs1, Hsr, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_tile d L (shareOf L) (shareOf L) (X d) (E d) hX O W f) $$ [Hres Hi Hb Ha Hs0 Hs1 Hsr HO Hmw]
  · isplitl [Hres]; · iexact Hres
    isplitl [Hi Hb Ha]
    · isplitl [Hi]; · iexact Hi
      isplitl [Hb]; · iexact Hb
      iexact Ha
    isplitl [Hs0 Hs1 Hsr]
    · isplitl [Hs0]; · iexact Hs0
      isplitl [Hs1]; · iexact Hs1
      iexact Hsr
    isplitl [HO]
    · unfold Owed
      iexists W
      isplitr
      · ipureintro; exact fun p hp => Or.inl hp
      · iexact HO
    iexact Hmw
  iintro ⟨Hres, ⟨Hi, Hb, Ha⟩, ⟨Hs0, Hs1, Hsr⟩, HO⟩
  isplitl [Hres]; · iexact Hres
  isplitl [Hi Hb Ha Hbufs]
  · isplitl [Hi]; · iexact Hi
    isplitl [Hb]; · iexact Hb
    isplitl [Ha]; · iexact Ha
    iexact Hbufs
  isplitl [Hs0 Hs1 Hsr Hsems]
  · isplitl [Hs0]; · iexact Hs0
    isplitl [Hs1]; · iexact Hs1
    isplitl [Hsr]; · iexact Hsr
    iexact Hsems
  unfold Owed
  iexact HO

theorem defs₀_vector (c : Fin τ.nSC) (s : Fin τ.nSub) :
    defs₀ (F := F) (.scVector c s) 0 () = SparseCore.onTile hcore0 hsub0 (fun c s => cc0_body (coordsV c s)
      xM (Memref.isWhole_whole _) tM (Memref.isWhole_whole _) oM (Memref.isWhole_whole _)
      iM (Memref.isWhole_whole _) bM (Memref.isWhole_whole _) aM (Memref.isWhole_whole _)
      cc0_scratch3 cc0_scoped0 cc0_scoped1) ⟨⟩ c s := rfl

theorem obl_post {R A B : sProp 𝕄} {th : Thread nD τ} {O : CellTallies nD τ sig (HIx 1)} {W : Waits sig (HIx 1)} {q : Fin 1} :
    iprop(R ∗ A ∗ B ∗ ∃ W', ⌜∀ p ∈ W', p ∈ W ∨ p.2 = none⌝ ∗ owes th O W')
      ⊢ iprop(R ∗ A ∗ B ∗ ∃ W', ⌜∀ p ∈ W', p ∈ W ∨ p.2 = none ∨ p.2 = some q⌝ ∗ owes th O W') := by
  iintro ⟨HR, HA, HB, %W', %hW', HO⟩
  isplitl [HR]; · iexact HR
  isplitl [HA]; · iexact HA
  isplitl [HB]; · iexact HB
  iexists W'
  isplitr
  · ipureintro; exact fun p hp => (hW' p hp).imp_right Or.inl
  · iexact HO

set_option maxRecDepth 16384 in
/-- Every task meets what the launch asks of it. -/
theorem tileObl (hX : ∀ d x, (X d x).toNat < 100000) : (K (F := F)).TileObl (D (F := F)) 𝒱 (P X E o) v₀ 0 := by
  intro d c i O W hO _ _
  simp only [show (P X E o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X E d (coordsV ⟨_, hci.1⟩ ⟨_, hci.2⟩) (hX d) (o d) O W hO).trans (wp_mono frame _ _ fun _ => obl_post)

/-- A SparseCore's part is its tasks' parts. -/
theorem vecSplit : (K (F := F)).VecSplit' (P X E o) 0 := by
  intro d c
  show CoreRes X E d ⟨c.val, c.isLt⟩ (o d) ⊢ |={Set.univ}=> iprop(CoreRes X E d ⟨c.val, c.isLt⟩ (o d)
      ∗ (CoreRes X E d ⟨c.val, c.isLt⟩ (pooled (X d) (E d)) -∗ CoreRes X E d ⟨c.val, c.isLt⟩ (pooled (X d) (E d))))
  iintro H; imodintro
  isplitl [H]; · iexact H
  iintro H; iexact H

/-! ## The call's operands, split among the tiles -/

/-- A tile's rows, by number. -/
theorem base_coordsV (c : Fin (grid0.bound 0)) (i : Fin (grid0.bound 1)) : base (coordsV c i) = 256 * i.val + 128 * c.val := rfl

/-- Rows of different tiles are different. -/
theorem outSets_disjoint : ∀ t ∈ (Finset.univ : Finset (Fin (grid0.bound 0) × Fin (grid0.bound 1))), ∀ t' ∈ (Finset.univ : Finset (Fin (grid0.bound 0) × Fin (grid0.bound 1))),
    t ≠ t' → Disjoint (outSet (coordsV t.1 t.2)) (outSet (coordsV t'.1 t'.2)) := by
  rintro ⟨c, i⟩ - ⟨c', i'⟩ - hne
  refine Finset.disjoint_left.mpr fun x hx hx' => hne ?_
  have h := (Finset.mem_filter.mp hx).2
  have h' := (Finset.mem_filter.mp hx').2
  simp only [base_coordsV] at h h'
  have hc : c.val < 2 := c.isLt
  have hc' : c'.val < 2 := c'.isLt
  exact Prod.ext (Fin.ext (by show c.val = c'.val; omega)) (Fin.ext (by show i.val = i'.val; omega))

/-- Every row of the output is some tile's. -/
theorem outSets_cover : (Finset.univ : Finset (Fin (grid0.bound 0) × Fin (grid0.bound 1))).biUnion (fun t => outSet (coordsV t.1 t.2)) = Finset.univ := by
  refine Finset.eq_univ_iff_forall.mpr fun x => ?_
  have hx : (x 0).val < 4096 := (x 0).isLt
  refine Finset.mem_biUnion.mpr ⟨(⟨(x 0).val / 128 % 2, by show _ < 2; omega⟩, ⟨(x 0).val / 256, by show _ < 16; omega⟩), Finset.mem_univ _, ?_⟩
  refine Finset.mem_filter.mpr ⟨Finset.mem_univ _, ?_⟩
  rw [base_coordsV]
  show 256 * ((x 0).val / 256) + 128 * ((x 0).val / 128 % 2) ≤ (x 0).val ∧ (x 0).val < 256 * ((x 0).val / 256) + 128 * ((x 0).val / 128 % 2) + 128
  omega

/-- What every tile reads, split into the tiles' shares. -/
theorem shares_split {ℓ : Loc nD τ sig} (f : Buf (Elt F) ℓ) :
    (ℓ ↦{fullShare} f : sProp 𝕄)
      = bigSep Finset.univ fun c : Fin (grid0.bound 0) => bigSep Finset.univ fun i : Fin (grid0.bound 1) => ℓ ↦{shareOf (coordsV c i)} f := by
  refine (pointsTo_leaves Finset.univ f 1 fullShare).trans (bigSep_congr fun c _ => ?_)
  exact (pointsTo_leaves Finset.univ f 4 _).trans rfl

/-- The output, split into the tiles' rows. -/
theorem rows_split (d : Dev nD) (f : S4096x128.Idx → F .f32) :
    (oLoc d ↦{fullShare} (f : Buf (Elt F) (oLoc d)) : sProp 𝕄)
      = bigSep Finset.univ fun c : Fin (grid0.bound 0) => bigSep Finset.univ fun i : Fin (grid0.bound 1) =>
          oLoc d ↦[outSet (coordsV c i)]{fullShare} (f : Buf (Elt F) (oLoc d)) := by
  have h := pointsTo_biUnion (Val := Elt F) (ℓ := oLoc d) (q := fullShare) (f := (f : Buf (Elt F) (oLoc d))) (Finset.univ : Finset (Fin (grid0.bound 0) × Fin (grid0.bound 1)))
    (fun t => outSet (coordsV t.1 t.2)) outSets_disjoint (Ix := HIx 1) (Name := ℕ) (U := UU) (Lvl := ℕ)
  refine (Eq.trans ?_ h).trans (bigSep_univ_prod _)
  exact congrArg (fun s => (oLoc d ↦[s]{fullShare} (f : Buf (Elt F) (oLoc d)) : sProp 𝕄)) outSets_cover.symm

/-- The call's operands whole are the SparseCores' parts of them. -/
theorem cores_split (d : Dev nD) (f : S4096x128.Idx → F .f32) :
    (iprop((xLoc d ↦{fullShare} (X d : Buf (Elt F) (xLoc d))) ∗ (tLoc d ↦{fullShare} (E d : Buf (Elt F) (tLoc d)))
        ∗ (oLoc d ↦{fullShare} (f : Buf (Elt F) (oLoc d)))) : sProp 𝕄)
      = bigSep Finset.univ fun c : Fin (grid0.bound 0) => CoreRes X E d c f := by
  unfold CoreRes TileRes
  rw [shares_split (ℓ := xLoc d), shares_split (ℓ := tLoc d), rows_split]
  simp only [bigSep_sep']

end Cert.Proof.Pool

end
-- ==== Proof.Region.lean ====
/-
The TensorCore's kernel: the two dense layers over the pooled sums, one region of one point.
-/
module

public import proofs.«01_k».proof.Proof.Launch
public import proofs.«01_k».proof.Proof.Gen.KernelIdeal.Launch
public import proofs.«01_k».proof.Proof.Gen.KernelIdeal.Points
public import Idealize.ShloMosaic.Lib.Pipeline.Regions
public import Idealize.ShloMosaic.Lib.Pipeline.Value
public import Idealize.ShloMosaic.Lib.VecWindow
public import Idealize.ShloMosaic.Lib.Pipeline.RegionArrays
public import Idealize.ShloMosaic.Lib.LaneScatter.Tiles

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A buffer of the TensorCore's, held whole. -/
abbrev tcPts (d : Dev nD) {sp : Space} {sh : Shape} {e : EltTy} (M : Memref sig .tc sp sh e) (f : Buf (Elt F) (M.view.loc (SparseCore.T (τ := τ) d))) : sProp 𝕄 :=
  M.view.loc (SparseCore.T d) ↦{fullShare} f

/-- One store of the whole result block leaves its payload. -/
theorem whole_store (f w : S100x4096.Idx → F .f32) (inb : ∀ a, (![0, 0] : Fin 2 → ℕ) a + S100x4096.size a ≤ S100x4096.size a) :
    (Memref.whole cc1_stg5_0).view.writes (Elt F) f [⟨Rect.unit ![0, 0] S100x4096.size inb, w⟩] = w := by
  have h := LaneScatter.read_whole_store (Val := Elt F) (s := S100x4096) (e := .f32) (Memref.whole cc1_stg5_0).view f (off := ![0, 0])
    (fun a => by fin_cases a <;> rfl) inb w
  exact (View.read_whole (Val := Elt F) cc1_stg5_0 _).symm.trans h

/-- The two layers, run once over the staged operands: the result block holds what the layers give, the operands what they held. -/
theorem wp_mlp (d : Dev nD) (v0 : S4096x128.Idx → F .f32) (v4 : S128x128.Idx → F .f32) (v6 : S128.Idx → F .f32) (v12 : S128x100.Idx → F .f32)
    (v14 : S100.Idx → F .f32) (v5 : S100x4096.Idx → F .f32) {Q : PUnit → sProp 𝕄} :
    iprop(tcPts d (Memref.whole cc1_stg0_0) (v0)
        ∗ tcPts d (Memref.whole cc1_stg1_0) (v4)
        ∗ tcPts d (Memref.whole cc1_stg2_0) (v6)
        ∗ tcPts d (Memref.whole cc1_stg3_0) (v12)
        ∗ tcPts d (Memref.whole cc1_stg4_0) (v14)
        ∗ tcPts d (Memref.whole cc1_stg5_0) (v5))
      ⊢ iprop((iprop(tcPts d (Memref.whole cc1_stg0_0) (v0)
        ∗ tcPts d (Memref.whole cc1_stg1_0) (v4)
        ∗ tcPts d (Memref.whole cc1_stg2_0) (v6)
        ∗ tcPts d (Memref.whole cc1_stg3_0) (v12)
        ∗ tcPts d (Memref.whole cc1_stg4_0) (v14)
        ∗ tcPts d (Memref.whole cc1_stg5_0) (k1_pay1 v0 v4 v6 v12 v14)) -∗ Q ⟨⟩)
        -∗ wp frame (wpE (defs₀ (F := F)) 𝒱₀ (SparseCore.T d) none) Set.univ (bodyAt1 t1_0) Q) := by
  show _ ⊢ iprop(_ -∗ wp frame (wpE (defs₀ (F := F)) 𝒱₀ (SparseCore.T d) none) Set.univ
    (cc1__mlp_body (Memref.whole cc1_stg0_0) (Memref.isWhole_whole _) (Memref.whole cc1_stg1_0) (Memref.isWhole_whole _) (Memref.whole cc1_stg2_0) (Memref.isWhole_whole _)
      (Memref.whole cc1_stg3_0) (Memref.isWhole_whole _) (Memref.whole cc1_stg4_0) (Memref.isWhole_whole _) (Memref.whole cc1_stg5_0) (Memref.isWhole_whole _)) Q)
  simp only [cc1__mlp_body_eq_skeleton]; unfold cc1__mlp_body_skel
  iintro ⟨H0, H1, H2, H3, H4, H5⟩ Hk
  sl_exec
  rw [show View.readAt (Elt F) (Memref.whole cc1_stg0_0).view (Rect.unit ![0, 0] S4096x128.size inb_S4096x128_S4096x128_0_0).toLoadRect v0 = v0 from
      (View.readAt_full (Val := Elt F) (s := S4096x128) (e := .f32) (Memref.whole cc1_stg0_0).view v0 _).trans rfl,
    show View.readAt (Elt F) (Memref.whole cc1_stg1_0).view (Rect.unit ![0, 0] S128x128.size inb_S128x128_S128x128_0_0).toLoadRect v4 = v4 from
      (View.readAt_full (Val := Elt F) (s := S128x128) (e := .f32) (Memref.whole cc1_stg1_0).view v4 _).trans rfl,
    show View.readAt (Elt F) (Memref.whole cc1_stg2_0).view (Rect.unit ![0] S128.size inb_S128_S128_0).toLoadRect v6 = v6 from
      (View.readAt_full (Val := Elt F) (s := S128) (e := .f32) (Memref.whole cc1_stg2_0).view v6 _).trans rfl,
    show View.readAt (Elt F) (Memref.whole cc1_stg3_0).view (Rect.unit ![0, 0] S128x100.size inb_S128x100_S128x100_0_0).toLoadRect v12 = v12 from
      (View.readAt_full (Val := Elt F) (s := S128x100) (e := .f32) (Memref.whole cc1_stg3_0).view v12 _).trans rfl,
    show View.readAt (Elt F) (Memref.whole cc1_stg4_0).view (Rect.unit ![0] S100.size inb_S100_S100_0).toLoadRect v14 = v14 from
      (View.readAt_full (Val := Elt F) (s := S100) (e := .f32) (Memref.whole cc1_stg4_0).view v14 _).trans rfl]
  rw [show (Prog.ret PUnit.unit : Prog (TpuEff nD τ sig (Elt F) Λ₀ .tc) PUnit) = pure PUnit.unit from rfl, wp_pure]
  imodintro
  iapply Hk
  isplitl [H0]; · iexact H0
  isplitl [H1]; · iexact H1
  isplitl [H2]; · iexact H2
  isplitl [H3]; · iexact H3
  isplitl [H4]; · iexact H4
  iapply (Entails.of_eq (congrArg (tcPts d (Memref.whole cc1_stg5_0)) (whole_store v5 _ _)))
  iexact H5

/-! ## The region's proof data -/

variable (p : Dev nD → S4096x128.Idx → F .f32) (w1 : Dev nD → S128x128.Idx → F .f32) (c1 : Dev nD → S128.Idx → F .f32)
  (w2 : Dev nD → S128x100.Idx → F .f32) (c2 : Dev nD → S100.Idx → F .f32) (r : Dev nD → S100x4096.Idx → F .f32)

/-- The region's six arrays as it finds them: the pooled sums, the two layers' weights and biases, and the result's place. -/
def arrAt₀ (d : Dev nD) : (w : Fin cfg1.W) → Buf (Elt F) ((cfg1.win w).arr.view.loc (d.tc : Thread nD τ))
  | 0 => p d | 1 => w1 d | 2 => c1 d | 3 => w2 d | 4 => c2 d | 5 => r d

/-- The staging buffers after the body: the operands as fetched, and the two layers of the means. -/
def left (d : Dev nD) : (w : Fin cfg1.W) → (cfg1.win w).block.Idx → Elt F (cfg1.win w).elt
  | 0 => p d | 1 => w1 d | 2 => c1 d | 3 => w2 d | 4 => c2 d | 5 => k1_pay1 (p d) (w1 d) (c1 d) (w2 d) (c2 d)

/-- No table is prefetched. -/
abbrev adm : (q : Fin 1) → (pcfgs (F := F) q).Adm := fun q => (cfgs q).toPCfg_adm

/-- The wait pairs the TensorCore may have recorded once the SparseCore's call is over. -/
def recd (d : Dev nD) : Set (SemLoc sig × HIx 1) := {x | (K (F := F)).lev (SparseCore.T d, x.1) x.2 ≤ 8 * SparseCore.Cfg.Blocks.fst (Q := 1) (N := 1) 1}

/-- The region's proof data: it owes nothing, and its loop's own waits are at the level zero. -/
def dat (d : Dev nD) : Pipeline.Dat τ (Elt F) (HIx 1) ℕ UU ℕ cfg1 d where
  A := arrAt₀ p w1 c1 w2 c2 r d
  after w _ := left p w1 c1 w2 c2 d w
  Φ _ := BI.emp
  q _ := fullShare
  owed _ := 0
  recorded _ := recd (F := F) d

/-- A fetched window's buffer holds the block the fetch brought. -/
theorem before_of_fetch (d : Dev nD) (w : Fin cfg1.W) (hf : (cfg1.win w).fetch t1_0) (x) {v}
    (h : ∀ y, (dat p w1 c1 w2 c2 r d).fetched w t1_0 x y = v y) : (dat p w1 c1 w2 c2 r d).before w t1_0 x = v := by
  unfold Pipeline.Dat.before; rw [if_pos hf]; exact funext h

/-- What the body finds in each staging buffer: the operands as fetched, anything in the result's. -/
theorem before_in (d : Dev nD) (w : Fin cfg1.W) (hw : (w : Fin 6).val < 5) (x) :
    (dat p w1 c1 w2 c2 r d).before w t1_0 x = left p w1 c1 w2 c2 d w := by
  match w, hw with
  | 0, _ => exact before_of_fetch p w1 c1 w2 c2 r d 0 (fetch1_0 _) x (fun y => congrArg (p d) (funext fun a => Fin.ext (by fin_cases a <;> exact (Nat.zero_add _).trans (Nat.one_mul _))))
  | 1, _ => exact before_of_fetch p w1 c1 w2 c2 r d 1 (fetch1_1 _) x (fun y => congrArg (w1 d) (funext fun a => Fin.ext (by fin_cases a <;> exact (Nat.zero_add _).trans (Nat.one_mul _))))
  | 2, _ => exact before_of_fetch p w1 c1 w2 c2 r d 2 (fetch1_2 _) x (fun y => congrArg (c1 d) (funext fun a => Fin.ext (by fin_cases a <;> exact (Nat.zero_add _).trans (Nat.one_mul _))))
  | 3, _ => exact before_of_fetch p w1 c1 w2 c2 r d 3 (fetch1_3 _) x (fun y => congrArg (w2 d) (funext fun a => Fin.ext (by fin_cases a <;> exact (Nat.zero_add _).trans (Nat.one_mul _))))
  | 4, _ => exact before_of_fetch p w1 c1 w2 c2 r d 4 (fetch1_4 _) x (fun y => congrArg (c2 d) (funext fun a => Fin.ext (by fin_cases a <;> exact (Nat.zero_add _).trans (Nat.one_mul _))))
  | ⟨n + 5, _⟩, h => exact absurd h (by show ¬ (n + 5 < 5); omega)

/-- The body's obligation at the region's one point. -/
theorem body_mlp (d : Dev nD) : Pipeline.BodyObligation (dat p w1 c1 w2 c2 r d) (defs₀ (F := F)) 𝒱₀ (none : HIx 1) Set.univ := by
  intro t
  obtain rfl := fin_N1 t
  rw [bigSep_W1, bigSep_W1]
  unfold owns
  dsimp only
  simp only [View.set_whole, View.read_whole]
  show _ ⊢ wp frame (wpE (defs₀ (F := F)) 𝒱₀ (SparseCore.T d) none) Set.univ (bodyAt1 t1_0) _
  iintro ⟨HΦ, HO, ⟨%x0, %f0, %e0, H0⟩, ⟨%x1, %f1, %e1, H1⟩, ⟨%x2, %f2, %e2, H2⟩, ⟨%x3, %f3, %e3, H3⟩, ⟨%x4, %f4, %e4, H4⟩, ⟨%x5, %f5, %e5, H5⟩⟩
  obtain rfl : f0 = p d := e0.trans (before_in p w1 c1 w2 c2 r d 0 (by decide) x0)
  obtain rfl : f1 = w1 d := e1.trans (before_in p w1 c1 w2 c2 r d 1 (by decide) x1)
  obtain rfl : f2 = c1 d := e2.trans (before_in p w1 c1 w2 c2 r d 2 (by decide) x2)
  obtain rfl : f3 = w2 d := e3.trans (before_in p w1 c1 w2 c2 r d 3 (by decide) x3)
  obtain rfl : f4 = c2 d := e4.trans (before_in p w1 c1 w2 c2 r d 4 (by decide) x4)
  iapply (wp_mlp d (p d) (w1 d) (c1 d) (w2 d) (c2 d) f5) $$ [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iapply (Entails.of_eq (show (dat p w1 c1 w2 c2 r d).Φ t1_0.castSucc = (dat p w1 c1 w2 c2 r d).Φ t1_0.succ from rfl)); iexact HΦ
  isplitl [HO]; · iexact HO
  isplitl [H0]; · iexists (p d); isplitr; · ipureintro; rfl
                  iexact H0
  isplitl [H1]; · iexists (w1 d); isplitr; · ipureintro; rfl
                  iexact H1
  isplitl [H2]; · iexists (c1 d); isplitr; · ipureintro; rfl
                  iexact H2
  isplitl [H3]; · iexists (w2 d); isplitr; · ipureintro; rfl
                  iexact H3
  isplitl [H4]; · iexists (c2 d); isplitr; · ipureintro; rfl
                  iexact H4
  iexists (k1_pay1 (p d) (w1 d) (c1 d) (w2 d) (c2 d)); isplitr; · ipureintro; rfl
  iexact H5

/-- The result array after the region holds the two layers of the means. -/
theorem arr_out (d : Dev nD) : (dat p w1 c1 w2 c2 r d).arrAt 5 cfg1.N = k1_pay1 (p d) (w1 d) (c1 d) (w2 d) (c2 d) := by
  have h1 : (dat p w1 c1 w2 c2 r d).arrAt 5 (0 + 1) = ((cfg1.win 5).blk t1_0).view.write (Elt F) ((dat p w1 c1 w2 c2 r d).arrAt 5 0)
      ((dat p w1 c1 w2 c2 r d).flushed 5 t1_0) Finset.univ := by
    unfold Pipeline.Dat.arrAt
    rw [dif_pos (show 0 < cfg1.N from t1_0.isLt)]
    exact if_pos (flush1_5 t1_0)
  rw [show cfg1.N = 0 + 1 from N_1, h1]
  funext i
  have e : ((cfg1.win 5).blk t1_0).view.emb i = i := funext fun a => Fin.ext (by fin_cases a <;> exact (Nat.zero_add _).trans (Nat.one_mul _))
  exact (congrArg _ e.symm).trans (View.write_emb_of_mem (v := ((cfg1.win 5).blk t1_0).view) _ _ (Finset.mem_univ i))

/-- The region: from the six arrays and the TensorCore's settled debts to the same arrays, the result at the two layers. -/
abbrev regPre (d : Dev nD) (out : S100x4096.Idx → F .f32) : sProp 𝕄 :=
  iprop(tcPts d (Memref.whole main_v1) (p d) ∗ tcPts d (Memref.whole main_arg2) (w1 d) ∗ tcPts d (Memref.whole main_arg3) (c1 d)
    ∗ tcPts d (Memref.whole main_arg4) (w2 d) ∗ tcPts d (Memref.whole main_arg5) (c2 d) ∗ tcPts d (Memref.whole main_v2) out
    ∗ ∃ W, ⌜(K (F := F)).WBelow (SparseCore.T d) W (8 * SparseCore.Cfg.Blocks.fst (Q := 1) (N := 1) 1)⌝ ∗ owes (SparseCore.T d) (0 : CellTallies nD τ sig (HIx 1)) W)

/-- The region's arrays, one by one. -/
theorem arrays_split (d : Dev nD) (Fa) : ((dat p w1 c1 w2 c2 r d).arrays Fa : sProp 𝕄)
    = iprop(tcPts d (Memref.whole main_v1) (Fa 0) ∗ tcPts d (Memref.whole main_arg2) (Fa 1) ∗ tcPts d (Memref.whole main_arg3) (Fa 2)
      ∗ tcPts d (Memref.whole main_arg4) (Fa 3) ∗ tcPts d (Memref.whole main_arg5) (Fa 4) ∗ tcPts d (Memref.whole main_v2) (Fa 5)) := by
  rw [Pipeline.arrays_eq (Pipeline.pin (pcfgs (F := F)) adm) (fun _ d => dat p w1 c1 w2 c2 r d) 0 d arr_whole1 (fun w => ite_self _) Fa]
  exact bigSep_W1 _

/-- The kernel region of the two layers: its windows, its body's obligation, its entry and its exit. -/
def region : Pipeline.RegionSeg (pcfgs (F := F)) adm (fun _ d => dat p w1 c1 w2 c2 r d) (none : HIx 1) (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody d := (body_mlp p w1 c1 w2 c2 r d).loose
  hwaits := Pipeline.hwaits_of_owed_zero _ _ _ _ (K (F := F)).L (K (F := F)).lev 0 fun _ _ => rfl
  pre d := regPre p w1 c1 w2 c2 d (r d)
  post d := regPre p w1 c1 w2 c2 d (k1_pay1 (p d) (w1 d) (c1 d) (w2 d) (c2 d))
  X _ := BI.emp
  Y _ := BI.emp
  Z _ := BI.emp
  hentry d := by
    rw [Pipeline.ownSems0_none, arrays_split, Pipeline.prefHeld_of_none _ rfl]
    iintro ⟨⟨H0, H1, H2, H3, H4, H5, %W, %hW, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · unfold Pipeline.Dat.owesAt Pipeline.owesWithin
      iexists W; isplitr; · ipureintro; exact fun x hx => Or.inl (hW x hx)
      iexact HO
    isplitr <;> iempintro
  hin d := by
    iintro -; iempintro
  hout d := by
    rw [Pipeline.ownSems0_none, scopedRest1_eq]
    iintro -
    isplitr; · iempintro
    isplitr <;> iempintro
  hexit d := by
    rw [arrays_split]
    iintro ⟨⟨H0, H1, H2, H3, H4, H5⟩, HO, -, -⟩
    unfold Pipeline.Dat.owesAt Pipeline.owesWithin
    icases HO with ⟨%W, %hW, HO⟩
    imodintro
    isplitl [H0]; · iexact H0
    isplitl [H1]; · iexact H1
    isplitl [H2]; · iexact H2
    isplitl [H3]; · iexact H3
    isplitl [H4]; · iexact H4
    isplitl [H5]; · iapply (Entails.of_eq (congrArg (tcPts d (Memref.whole main_v2)) (arr_out p w1 c1 w2 c2 r d))); iexact H5
    iexists W; isplitr
    · ipureintro; intro x hx
      rcases hW hx with h | ⟨w, s, rfl⟩
      · exact h
      · exact Nat.zero_le _
    iexact HO

/-- The staging cells' rounds library: the left half of the right factor. -/
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EP_landsIn : (EP : Emb UK 𝕄).LandsIn (upEmb : UEmb _ 𝕄) := by unfold EP; infer_instance

/-- The region's call, as the thread's program makes it: the two layers over the six arrays. -/
theorem wp_region [∀ e, Nonempty (Elt F e)] (d : Dev nD) {Q : PUnit → sProp 𝕄} :
    iprop(boundary (SparseCore.T d) ∗ regPre p w1 c1 w2 c2 d (r d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ iprop((iprop(boundary (SparseCore.T d) ∗ regPre p w1 c1 w2 c2 d (k1_pay1 (p d) (w1 d) (c1 d) (w2 d) (c2 d))) -∗ Q ⟨⟩)
        -∗ wp frame (wpE ((K (F := F)).defs D) 𝒱 (SparseCore.T d) none) Set.univ
          (Prog.lift (.customCall (SparseCore.inner (Pipeline.entry 0)) ())) Q) := by
  iintro ⟨Hb, Hp, HL, Hg, Ht⟩ Hk
  iapply ((K (F := F)).wp_liftProg D 𝒱 (SparseCore.T d) Set.univ none (Prog.lift (.customCall (Pipeline.entry 0) ())) Q)
  iapply (Pipeline.RegionSeg.wp (pcfgs (F := F)) adm (fun _ d => dat p w1 c1 w2 c2 r d) (none : HIx 1) cellOf_inj EP (defs₀ (F := F)) 𝒱₀ (K (F := F)).L
    (K (F := F)).lev (region p w1 c1 w2 c2 r) d none (fun u hu => nomatch hu) (fun _ => Prog.ret ⟨⟩) Q)
  isplitl [Hk]
  · iintro ⟨Hb, Hp⟩
    rw [show (Prog.ret PUnit.unit : Prog (TpuEff nD τ sig (Elt F) (ΛP (F := F)) .tc) PUnit) = pure PUnit.unit from rfl, wp_pure]
    imodintro
    iapply Hk
    isplitl [Hb]; · iexact Hb
    iapply (Entails.of_eq (show (region p w1 c1 w2 c2 r).post d = regPre p w1 c1 w2 c2 d (k1_pay1 (p d) (w1 d) (c1 d) (w2 d) (c2 d)) from rfl)); iexact Hp
  isplitl [Hb]; · iexact Hb
  isplitl [Hp]; · iapply (Entails.of_eq (show regPre p w1 c1 w2 c2 d (r d) = (region p w1 c1 w2 c2 r).pre d from rfl)); iexact Hp
  isplitl [HL]; · iexact HL
  isplitl [Hg]; · iexact Hg
  iexact Ht

end Cert.Proof.Pool

end
-- ==== Proof.Main.lean ====
/-
The program's run: its two host operations, the SparseCore's call and the TensorCore's region, from the launch to its end.
-/
module

public import proofs.«01_k».proof.Proof.Region

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The program's values, over the launch memory -/

variable (m : (ℓ : Loc nD τ sig) → Buf (Elt F) ℓ) (ρ : Dev nD → PrngReg)

/-- The tokens as the SparseCore's kernel reads them: the launch's, in two halves a row. -/
def toks (d : Dev nD) : S4096x2x100.Idx → BitVec 32 :=
  shapeCast S4096x2x100 (m ((SparseCore.T d).loc main_arg0) : S4096x200.Idx → BitVec 32) shapeCasts_S4096x200_S4096x2x100
/-- The embedding table, the two layers' weights and biases, and what the result buffers hold at the launch. -/
def table (d : Dev nD) : S100000x128.Idx → F .f32 := m ((SparseCore.T d).loc main_arg1)
def w1 (d : Dev nD) : S128x128.Idx → F .f32 := m ((SparseCore.T d).loc main_arg2)
def c1 (d : Dev nD) : S128.Idx → F .f32 := m ((SparseCore.T d).loc main_arg3)
def w2 (d : Dev nD) : S128x100.Idx → F .f32 := m ((SparseCore.T d).loc main_arg4)
def c2 (d : Dev nD) : S100.Idx → F .f32 := m ((SparseCore.T d).loc main_arg5)
def old1 (d : Dev nD) : S4096x128.Idx → F .f32 := m ((SparseCore.T d).loc main_v1)
def old2 (d : Dev nD) : S100x4096.Idx → F .f32 := m ((SparseCore.T d).loc main_v2)
/-- The pooled sums the SparseCores leave. -/
def sums (d : Dev nD) : S4096x128.Idx → F .f32 := pooled (toks m d) (table m d)
/-- The two layers, classes by rows. -/
def layers (d : Dev nD) : S100x4096.Idx → F .f32 := k1_pay1 (sums m d) (w1 m d) (c1 m d) (w2 m d) (c2 m d)
/-- The program's result. -/
def result (d : Dev nD) : S4096x100.Idx → F .f32 := transpose S4096x100 [1, 0] (layers m d) transposes_S100x4096_S4096x100_1_0

/-- Every token names a row of the table. -/
def InVocab : Prop := ∀ d x, (toks m d x).toNat < 100000

/-! ## The launch element of the certificate's ghost state -/

abbrev cfgP (q : Fin 1) : Pipeline.Cfg sig Λ₀ := Pipeline.pin (pcfgs (F := F)) adm q

/-- The launch element: the handshakes' cells and tokens, the staging cells and theirs. -/
def u₀ : UU := (initOf (K (F := F)).hsCells (K (F := F)).hsToks, (initOf (Pipeline.cells (nD := nD) (τ := τ) (cfgP (F := F)) cellOf_inj) (Pipeline.launchToks (nD := nD) (τ := τ) (cfgP (F := F)) cellOf_inj), 1))

/-- The launch element's two rounds libraries. -/
theorem ownU_split (a : UH) (b : UK) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the TensorCore is dealt for its region: its staging cells' ghost state and their transfers' tokens. -/
abbrev Dealt (d : Dev nD) : sProp 𝕄 := iprop(Pipeline.cellsGhost (cfgP (F := F)) EP 0 d ∗ Pipeline.toksInit (cfgP (F := F)) EP 0 d)

theorem dealt_eq : (bigSep Finset.univ fun d : Dev nD => (Dealt d : sProp 𝕄))
    = iprop((bigSep Finset.univ fun d : Dev nD => bigSep Finset.univ fun q : Fin 1 => Pipeline.cellsGhost (cfgP (F := F)) EP q d)
      ∗ (bigSep Finset.univ fun d : Dev nD => bigSep Finset.univ fun q : Fin 1 => Pipeline.toksInit (cfgP (F := F)) EP q d)) := by
  rw [bigSep_sep' (Finset.univ : Finset (Dev nD))]
  rw [show (bigSep Finset.univ fun d : Dev nD => bigSep Finset.univ fun q : Fin 1 => (Pipeline.cellsGhost (cfgP (F := F)) EP q d : sProp 𝕄)) = _ from
      bigSep_congr fun d _ => bigSep_univ_of_subsingleton (Φ := fun q : Fin 1 => Pipeline.cellsGhost (cfgP (F := F)) EP q d) (0 : Fin 1),
    show (bigSep Finset.univ fun d : Dev nD => bigSep Finset.univ fun q : Fin 1 => (Pipeline.toksInit (cfgP (F := F)) EP q d : sProp 𝕄)) = _ from
      bigSep_congr fun d _ => bigSep_univ_of_subsingleton (Φ := fun q : Fin 1 => Pipeline.toksInit (cfgP (F := F)) EP q d) (0 : Fin 1)]

/-- No thread is dealt anything beside what the handshakes carry. -/
theorem extra_eq : (bigSep Finset.univ fun thr : Thread nD τ => bigSep Finset.univ fun q : Fin 1 => (P (toks m) (table m) (old1 m)).x q thr) = (BI.emp : sProp 𝕄) :=
  (bigSep_congr fun _ _ => bigSep_univ_of_subsingleton (0 : Fin 1)).trans (bigSep_emp_const _)

/-- The launch element is the handshakes' cells, every device's staging cells, and nothing more. -/
theorem hu₀ : (ownU (u₀ (F := F)) : sProp 𝕄)
    ⊢ |={Set.univ}=> iprop(BI.own (EH (initOf (K (F := F)).hsCells (K (F := F)).hsToks)) ∗ (bigSep Finset.univ fun d : Dev nD => Dealt d)
        ∗ bigSep Finset.univ fun thr : Thread nD τ => bigSep Finset.univ fun q : Fin 1 => (P (toks m) (table m) (old1 m)).x q thr) := by
  unfold u₀
  iintro Hu
  ihave H := (ownU_split _ _) $$ Hu
  icases H with ⟨HH, HP⟩
  imod (Pipeline.fund_ghost (nD := nD) (τ := τ) (cfgP (F := F)) EP cellOf_inj) $$ HP with ⟨Hg, Ht⟩
  imodintro
  isplitl [HH]; · iexact HH
  isplitl [Hg Ht]
  · iapply (Entails.of_eq (dealt_eq (F := F)).symm)
    isplitl [Hg]; · iexact Hg
    iexact Ht
  iapply (Entails.of_eq (extra_eq m).symm)
  iempintro

/-! ## @main on the TensorCore -/

/-- A device's buffers that outlive the kernels. -/
theorem unscopedBufs_eq (d : Dev nD) (W : (b : Ref sig .tc) → Buf (Elt F) ((d.tc : Thread nD τ).loc b)) :
    (unscopedBufs d W : sProp 𝕄) = iprop(tcPts d (Memref.whole main_arg0) (W main_arg0) ∗ tcPts d (Memref.whole main_arg1) (W main_arg1)
      ∗ tcPts d (Memref.whole main_arg2) (W main_arg2) ∗ tcPts d (Memref.whole main_arg3) (W main_arg3) ∗ tcPts d (Memref.whole main_arg4) (W main_arg4)
      ∗ tcPts d (Memref.whole main_arg5) (W main_arg5) ∗ tcPts d (Memref.whole main_v0) (W main_v0) ∗ tcPts d (Memref.whole main_v1) (W main_v1)
      ∗ tcPts d (Memref.whole main_v2) (W main_v2) ∗ tcPts d (Memref.whole main_v3) (W main_v3)) := by
  unfold unscopedBufs
  rw [show (Finset.univ.filter fun b : Ref sig .tc => ¬ b.isScoped)
      = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What the SparseCores are handed and what they hand back, as the TensorCore holds it. -/
theorem st_eq (d : Dev nD) (f : S4096x128.Idx → F .f32) :
    iprop(tcPts d (Memref.whole main_v0) (toks m d) ∗ tcPts d (Memref.whole main_arg1) (table m d) ∗ tcPts d (Memref.whole main_v1) f)
      = (bigSep Finset.univ fun c : Fin (grid0.bound 0) => CoreRes (toks m) (table m) d c f : sProp 𝕄) :=
  cores_split (toks m) (table m) d f

/-- What the SparseCores hand back: the tokens and the table untouched, the sums in their place. -/
theorem dn_eq (d : Dev nD) : (bigSep Finset.univ fun c : Fin ((K (F := F)).nCore 0) => (P (toks m) (table m) (old1 m)).dn 0 d c : sProp 𝕄)
    = iprop(tcPts d (Memref.whole main_v0) (toks m d) ∗ tcPts d (Memref.whole main_arg1) (table m d) ∗ tcPts d (Memref.whole main_v1) (sums m d)) :=
  (st_eq m d (sums m d)).symm

/-- What the TensorCore's state after the call holds beside its debts. -/
def tcKeep (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

/-- The TensorCore owes nothing once its one call is over. -/
theorem tcSt_debts (d : Dev nD) : ((K (F := F)).tcSt EH d 1 : sProp 𝕄)
    = iprop((∃ W, ⌜(K (F := F)).WBelow (SparseCore.T d) W (8 * SparseCore.Cfg.Blocks.fst (Q := 1) (N := 1) 1)⌝ ∗ owes (SparseCore.T d) (0 : CellTallies nD τ sig (HIx 1)) W) ∗ tcKeep d) := by
  unfold SparseCore.Cfg.tcSt tcKeep
  rw [(K (F := F)).Otc_end d le_rfl]

/-- A host operation over two buffers: the operand kept, the result at the operation's value. -/
theorem wp_host (d : Dev nD) {x y : Ref sig .tc} (hne : x ≠ y) {op : HloOp τ sig (Elt F)} (hb : op.bufs = {Proc.devRef .tc x, Proc.devRef .tc y}) (hf : op.fresh = ∅)
    (V : Valuation τ sig (Elt F)) {Q : PUnit → sProp 𝕄} :
    iprop(boundary (SparseCore.T d) ∗ ((SparseCore.T d).loc x ↦{fullShare} V (Proc.devRef .tc x)) ∗ ((SparseCore.T d).loc y ↦{fullShare} V (Proc.devRef .tc y)))
      ⊢ iprop((iprop(boundary (SparseCore.T d) ∗ ((SparseCore.T d).loc x ↦{fullShare} op.result V (Proc.devRef .tc x))
          ∗ ((SparseCore.T d).loc y ↦{fullShare} op.result V (Proc.devRef .tc y))) -∗ Q ⟨⟩)
        -∗ wp frame (wpE ((K (F := F)).defs D) 𝒱 (SparseCore.T d) none) Set.univ (hlo rfl op fun _ => Prog.ret ⟨⟩) Q) := by
  have hd : (Proc.devRef .tc x : DevRef τ sig) ∉ ({Proc.devRef .tc y} : Finset (DevRef τ sig)) := by
    rw [Finset.mem_singleton]; exact fun h => hne (Proc.devRef_injective _ h)
  have hh : ∀ V : Valuation τ sig (Elt F), (StableHlo.held (SparseCore.T d) op.bufs V : sProp 𝕄)
      = iprop(((SparseCore.T d).loc x ↦{fullShare} V (Proc.devRef .tc x)) ∗ ((SparseCore.T d).loc y ↦{fullShare} V (Proc.devRef .tc y))) := fun V => by
    unfold StableHlo.held; rw [hb, SparseCore.bigSep_insert' hd, bigSep_singleton]
  have hw := StableHlo.wp_hlo_within (defs := (K (F := F)).defs D) 𝒱 (SparseCore.T d) none Set.univ (hp := rfl) (op := op) (k := fun _ => Prog.ret PUnit.unit)
    (S := op.bufs) (Finset.Subset.refl _) (V := V) (Q := Q) hf
  rw [hh, hh] at hw
  iintro H Hk
  iapply hw $$ H
  iintro H
  rw [show (Prog.ret PUnit.unit : Prog (TpuEff nD τ sig (Elt F) (SparseCore.Sig (ΛP (F := F)) 1) .tc) PUnit) = pure PUnit.unit from rfl, wp_pure]
  imodintro
  iapply Hk
  iexact H

/-- What is left of the memory at the end: the arguments as launched, the result at its value. -/
abbrev Fin' (d : Dev nD) : sProp 𝕄 :=
  iprop(tcPts d (Memref.whole main_arg0) (m ((SparseCore.T d).loc main_arg0)) ∗ tcPts d (Memref.whole main_arg1) (table m d) ∗ tcPts d (Memref.whole main_arg2) (w1 m d)
    ∗ tcPts d (Memref.whole main_arg3) (c1 m d) ∗ tcPts d (Memref.whole main_arg4) (w2 m d) ∗ tcPts d (Memref.whole main_arg5) (c2 m d)
    ∗ tcPts d (Memref.whole main_v3) (result m d))

/-- The memory after the region, as the transpose finds it. -/
def mid (d : Dev nD) : Valuation τ sig (Elt F) := Function.update (fun b => m (d, b)) (Proc.devRef .tc main_v2) (layers m d)

theorem mid_v2 (d : Dev nD) : mid m d (Proc.devRef .tc main_v2) = layers m d := Function.update_self ..
theorem mid_v3 (d : Dev nD) : mid m d (Proc.devRef .tc main_v3) = m ((SparseCore.T d).loc main_v3) := Function.update_of_ne (by decide) ..

/-- @main on a device's TensorCore, from the launch to its end. -/
theorem hmain [∀ e, Nonempty (Elt F e)] (κ : GSem nD τ sig → ℕ) (d : Dev nD) :
    iprop((K (F := F)).ctx EH (P (toks m) (table m) (old1 m)) κ ∗ (K (F := F)).tcSt EH d 0 ∗ (K (F := F)).tcRes m ρ d ∗ Dealt d)
      ⊢ wp frame (wpE ((K (F := F)).defs D) 𝒱 (SparseCore.T d) none) Set.univ (main d)
          fun _ => iprop((K (F := F)).tcSt EH d 1 ∗ Fin' m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, Hx, Ho, Hr, Hq⟩, Hts, -⟩, ⟨Hg, Ht⟩⟩
  -- the tokens reshaped
  iapply (wp_host (F := F) d (x := main_arg0) (y := main_v0) (by decide) rfl rfl (fun b => m (d, b))) $$ [Hb H0 Hx]
  · isplitl [Hb]; · iexact Hb
    isplitl [H0]; · iexact H0
    iexact Hx
  rw [StableHlo.reshape_result', StableHlo.reshape_result_ne' _ _ _ _ _ (by decide)]
  iintro ⟨Hb, H0, Hx⟩
  -- the SparseCores' call
  iapply ((K (F := F)).wp_run D 𝒱 (EH := EH) (P := P (toks m) (table m) (old1 m)) κ d 0)
  isplitr; · iexact Hctx
  isplitl [Hst]; · iexact Hst
  isplitl [Hx H1 Ho]
  · iapply (Entails.of_eq (st_eq m d (old1 m d)))
    isplitl [Hx]; · iexact Hx
    isplitl [H1]; · iexact H1
    iexact Ho
  iintro ⟨Hst, Hdn⟩
  ihave Hdn' := (Entails.of_eq (dn_eq m d)) $$ Hdn
  icases Hdn' with ⟨Hx, H1, Ho⟩
  ihave Hst' := (Entails.of_eq (show ((K (F := F)).tcSt EH d ((0 : Fin 1).val + 1) : sProp 𝕄) = _ from tcSt_debts (F := F) d)) $$ Hst
  icases Hst' with ⟨HO, Hkeep⟩
  ihave HL := ((K (F := F)).ctx_levAts (EH := EH) (P := P (toks m) (table m) (old1 m)) κ) $$ Hctx
  -- the TensorCore's region
  iapply (wp_region (sums m) (w1 m) (c1 m) (w2 m) (c2 m) (old2 m) d) $$ [Hb Ho H2 H3 H4 H5 Hr HO HL Hg Ht]
  · isplitl [Hb]; · iexact Hb
    isplitl [Ho H2 H3 H4 H5 Hr HO]
    · isplitl [Ho]; · iexact Ho
      isplitl [H2]; · iexact H2
      isplitl [H3]; · iexact H3
      isplitl [H4]; · iexact H4
      isplitl [H5]; · iexact H5
      isplitl [Hr]; · iexact Hr
      iexact HO
    isplitl [HL]; · iexact HL
    isplitl [Hg]; · iexact Hg
    iexact Ht
  iintro ⟨Hb, Ho, H2, H3, H4, H5, Hr, HO⟩
  -- the result transposed
  iapply (wp_host (F := F) d (x := main_v2) (y := main_v3) (by decide) rfl rfl (mid m d)) $$ [Hb Hr Hq]
  · isplitl [Hb]; · iexact Hb
    isplitl [Hr]; · iapply (Entails.of_eq (congrArg (tcPts d (Memref.whole main_v2)) (mid_v2 m d).symm)); iexact Hr
    iapply (Entails.of_eq (congrArg (tcPts d (Memref.whole main_v3)) (mid_v3 m d).symm)); iexact Hq
  rw [StableHlo.unary_result', StableHlo.unary_result_ne' _ _ _ _ (by decide), mid_v2]
  iintro ⟨Hb, -, Hq⟩
  imodintro
  isplitl [HO Hkeep]
  · iapply (Entails.of_eq (tcSt_debts (F := F) d).symm)
    isplitl [HO]; · iexact HO
    iexact Hkeep
  isplitr [Hb Hts]
  · isplitl [H0]; · iexact H0
    isplitl [H1]; · iexact H1
    isplitl [H2]; · iexact H2
    isplitl [H3]; · iexact H3
    isplitl [H4]; · iexact H4
    isplitl [H5]; · iexact H5
    iexact Hq
  isplitl [Hb] <;> iassumption

/-! ## The run -/

/-- A final memory as the claims read it: the arguments as launched, the result at its value. -/
def AtEnd (d : Dev nD) (f : (ℓ : Loc nD τ sig) → Buf (Elt F) ℓ) : Prop :=
  (f ((SparseCore.T d).loc main_arg0) = m ((SparseCore.T d).loc main_arg0) ∧ f ((SparseCore.T d).loc main_arg1) = m ((SparseCore.T d).loc main_arg1)
    ∧ f ((SparseCore.T d).loc main_arg2) = m ((SparseCore.T d).loc main_arg2) ∧ f ((SparseCore.T d).loc main_arg3) = m ((SparseCore.T d).loc main_arg3)
    ∧ f ((SparseCore.T d).loc main_arg4) = m ((SparseCore.T d).loc main_arg4) ∧ f ((SparseCore.T d).loc main_arg5) = m ((SparseCore.T d).loc main_arg5))
    ∧ f ((SparseCore.T d).loc main_v3) = result m d

/-- A buffer held whole is what the final memory holds there. -/
theorem agree (d : Dev nD) (s' : Phys nD τ sig (Elt F)) (b : Ref sig .tc) (f : Buf (Elt F) ((SparseCore.T (τ := τ) d).loc b)) :
    iprop(SI s' ∗ ((SparseCore.T d).loc b ↦{fullShare} f)) ⊢ (iprop(⌜s'.mem.mem ((SparseCore.T d).loc b) = f⌝ ∗ SI s') : sProp 𝕄) := by
  iintro H
  ihave H := (persistent_entails_right (SI_pointsTo_agree (st := s') (ℓ := (SparseCore.T d).loc b) (I := Finset.univ) (q := fullShare) (f := f))) $$ H
  icases H with ⟨%h, HSI, -⟩
  isplitr; · ipureintro; exact funext fun i => h i (Finset.mem_univ i)
  iexact HSI

/-- The end's buffers name the final memory. -/
theorem hfin (d : Dev nD) (s' : Phys nD τ sig (Elt F)) : iprop(Fin' m d ∗ SI s') ⊢ (⌜AtEnd m d s'.mem.mem⌝ : sProp 𝕄) := by
  iintro ⟨⟨H0, H1, H2, H3, H4, H5, Hq⟩, HSI⟩
  ihave H := (agree d s' main_arg0 _) $$ [HSI H0]
  · isplitl [HSI] <;> iassumption
  icases H with ⟨%h0, HSI⟩
  ihave H := (agree d s' main_arg1 _) $$ [HSI H1]
  · isplitl [HSI] <;> iassumption
  icases H with ⟨%h1, HSI⟩
  ihave H := (agree d s' main_arg2 _) $$ [HSI H2]
  · isplitl [HSI] <;> iassumption
  icases H with ⟨%h2, HSI⟩
  ihave H := (agree d s' main_arg3 _) $$ [HSI H3]
  · isplitl [HSI] <;> iassumption
  icases H with ⟨%h3, HSI⟩
  ihave H := (agree d s' main_arg4 _) $$ [HSI H4]
  · isplitl [HSI] <;> iassumption
  icases H with ⟨%h4, HSI⟩
  ihave H := (agree d s' main_arg5 _) $$ [HSI H5]
  · isplitl [HSI] <;> iassumption
  icases H with ⟨%h5, HSI⟩
  ihave H := (agree d s' main_v3 _) $$ [HSI Hq]
  · isplitl [HSI] <;> iassumption
  icases H with ⟨%hq, -⟩
  ipureintro
  exact ⟨⟨h0, h1, h2, h3, h4, h5⟩, hq⟩

/-- The program runs to the end from any memory whose tokens name rows of the table: every argument as launched, the
    result at its value, every semaphore at zero. -/
theorem run_main [∀ e, Nonempty (Elt F e)] (h : InVocab m) :
    θ_run (Cert.KernelIdeal.defs (F := F)) (Cert.KernelIdeal.threads (F := F)) ⟨m, fun _ => 0, ρ⟩ fun r => (∀ d, AtEnd m d r.2.mem) ∧ r.2.sem = fun _ => 0 :=
  SparseCore.Cfg.θ_run_sc_quiescent (K := K (F := F)) (D := D) (𝒱 := 𝒱) (EH := EH) (P := P (toks m) (table m) (old1 m)) (A := ∅) facts v₀
    (fun q hq => match q with | 0 => nomatch hq)
    (fun q _ => match q with | 0 => tileObl (toks m) (table m) (old1 m) h)
    (fun q _ => match q with | 0 => SparseCore.Cfg.VecSplit.of_plain (vecSplit (toks m) (table m) (old1 m)))
    m ρ main (fun d => Dealt d) (Fin' m) (u₀ (F := F)) (sep_elim_left.trans (hu₀ m)) (hmain m ρ) (fun d s' => AtEnd m d s'.mem.mem) (hfin m)
    (fun r => (∀ d, AtEnd m d r.2.mem) ∧ r.2.sem = fun _ => 0) (fun _ h hz => ⟨h, hz⟩)

end Cert.Proof.Pool

end
-- ==== Proof.Frames.lean ====
/-
The precondition read as a bound on every token; the frames of the program, of its idealization and of the reference; and the named constant.
-/
module

public import proofs.«01_k».proof.Proof.Main
public import proofs.«01_k».proof.Defs
public import proofs.«01_k».proof.Proof.Gen.Kernel
public import proofs.«01_k».proof.Proof.Gen.Pre_in_vocab
public import Idealize.ShloMosaic.Lib.ReduceAll
public import proofs.«01_k».proof.Proof.Gen.ReferenceIdeal.Run
public import Idealize.ShloMosaic.Lib.WordArith
public import Idealize.ShloMosaic.Lib.Quiescent

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The precondition, read -/

/-- Where the precondition's bit is set, every token is below the number of the table's rows. -/
theorem tok_lt {x : S4096x200.Idx → BitVec 32} {e : FVec F S100000x128 .f32} {a : FVec F S128x128 .f32} {b : FVec F S128 .f32}
    {c : FVec F S128x100 .f32} {d : FVec F S100 .f32} (h : Cert.Pre_in_vocab.fn x e a b c d = fun _ => 1#1) (i : S4096x200.Idx) :
    (x i).toNat < 100000 := by
  haveI : Subsingleton Cert.Pre_in_vocab.S_.Idx := ⟨fun _ _ => funext fun k => k.elim0⟩
  have hi := Host.reduce_andi_all _ _ _ _ (fun k => k.elim0) (congrFun h (fun k => k.elim0)) i
  have hb : IntOp.andi (IntOp.cmpi .sge (x i) 0#32) (IntOp.cmpi .slt (x i) 100000#32) = 1#1 := hi
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at hb
  omega

/-- Hence the kernel's own reading of the tokens, the same tokens in two halves a row. -/
theorem inVocab (m : (ℓ : Loc nD τ sig) → Buf (Elt F) ℓ)
    (h : ∀ c : Dev nD, Cert.Pre_in_vocab.fn (F := F) (m (c.tc.loc main_arg0)) (m (c.tc.loc main_arg1)) (m (c.tc.loc main_arg2))
      (m (c.tc.loc main_arg3)) (m (c.tc.loc main_arg4)) (m (c.tc.loc main_arg5)) = fun _ => 1#1) : InVocab m :=
  fun d _ => tok_lt (h d) _

/-! ## The frames -/

/-- The run read at the arguments: they end as launched, and every semaphore at zero. -/
theorem run_args [∀ e, Nonempty (Elt F e)] (m : (ℓ : Loc nD τ sig) → Buf (Elt F) ℓ) (ρ : Dev nD → PrngReg) (h : InVocab m) :
    θ_run (Cert.KernelIdeal.defs (F := F)) (Cert.KernelIdeal.threads (F := F)) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5))
      ∧ r.2.sem = fun _ => 0 :=
  (θ_run Cert.KernelIdeal.defs _ _).mono (fun _ h => ⟨fun c => (h.1 c).1, h.2⟩) (run_main m ρ h)

/-- The idealized program terminates without fault from any memory the precondition admits, its arguments as launched and
    its semaphores at zero. -/
theorem frame_ideal : Cert.quiescent_KernelIdeal := fun m ρ hpre => run_args m ρ (inVocab m hpre)

end Cert.Proof.Pool

namespace Cert.Proof.Machine

open Idealize.ShloMosaic Idealize.SL.Sem

/-- At the machine's words a constant that a certificate names is the program's own word. -/
local instance : Named Bits where
  named _ _ {φ} b := FloatOps.ofBits φ b

/-- The program's bodies and its idealization's are the same bodies there. -/
theorem bodies : Cert.Kernel.defs₀ (F := Bits) = Cert.KernelIdeal.defs₀ (F := Bits) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

/-- The program as the machine runs it: the same steps, its one named constant the program's own word, so the same run. -/
theorem frame : Cert.quiescent_Kernel := fun m ρ hpre => by
  rw [show Cert.Kernel.defs (F := Bits) = Cert.KernelIdeal.defs (F := Bits) from
    congrArg (fun D => Cert.Kernel.sc.defs (Pipeline.defs Cert.Kernel.pcfgs D)) bodies]
  exact Pool.run_args (F := Bits) m ρ (Pool.inVocab m hpre)

/-- The reference runs from any memory, its arguments as launched; it has no semaphore, so every counter reads zero. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same under the kernel's precondition. -/
theorem frame_reference_pre : Cert.quiescent_ReferenceIdeal_pre_in_vocab := fun m ρ _ => frame_reference m ρ trivial

/-- The one named constant is the real it stands for. -/
theorem named_inv : Cert.preserves_Kernel_KernelIdeal := IdealRules.named_const.statement _ _ _ _ _ rfl

end Cert.Proof.Machine

end
-- ==== Proof.Reference.lean ====
/-
The reference's result read at an index: the rows its take names, their mean over a row's tokens, and the two layers.
-/
module

public import proofs.«01_k».proof.Proof.Gen.ReferenceIdeal
public import Idealize.ShloMosaic.Lib.Pointwise
public import Idealize.ShloMosaic.Lib.ReduceAll
public import Idealize.ShloMosaic.Lib.WordArith

@[expose] public section

noncomputable section

namespace Cert.Proof.Plain

open Idealize.ShloMosaic Idealize.SL.Sem
open Cert.ReferenceIdeal Cert.ReferenceIdeal.Gen

/-! ## The take -/

variable (X : S4096x200.Idx → BitVec 32) (E : FVec Ideal S100000x128 .f32)

/-- The tokens, a negative one counted from the table's end. -/
def wrapped : IVec S4096x200 32 :=
  select (cmpi .slt X (broadcastInDim S4096x200 ![] bcast_S_S4096x200 (constantI S_ 32 0#32)))
    (addi X (broadcastInDim S4096x200 ![] bcast_S_S4096x200 (constantI S_ 32 100000#32))) X
/-- The same, each the one entry of a start index. -/
def starts : IVec S4096x200x1 32 := broadcastInDim S4096x200x1 ![0, 1] bcast_S4096x200_S4096x200x1_0_1 (wrapped X)
/-- Which of them name a row of the table. -/
def named : IVec S4096x200 1 :=
  Host.reduce IntOp.andi
    (andi (cmpi .sge (starts X) (broadcastInDim S4096x200x1 ![] bcast_S_S4096x200x1 (constantI S_ 32 0#32)))
      (cmpi .sle (starts X) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_
/-- The rows they name, and the filler where they name none. -/
def taken : FVec Ideal S4096x200x128 .f32 :=
  select (broadcastInDim S4096x200x128 ![0, 1] bcast_S4096x200_S4096x200x128_0_1 (named X))
    (Host.gather gather_S100000x128_S4096x200x1_S4096x200x128_2_0_n_n_0_2_1128 E (starts X))
    (broadcastInDim S4096x200x128 ![] bcast_S_S4096x200x128 (constant S_ .f32 0x7FC00000#32))

/-- A token below the table's length is not negative: the wrap leaves it. -/
theorem wrapped_eq (h : ∀ i, (X i).toNat < 100000) : wrapped X = X := by
  funext j
  pointwise [wrapped]
  have hj := h j
  rw [show IntOp.cmpi .slt (X j) 0#32 = 0#1 by
    simp only [IntOp.cmpi, BitVec.slt_eq_decide, BitVec.toInt_eq_toNat_cond, BitVec.toNat_ofNat, Nat.reducePow, Nat.reduceMod]
    rw [decide_eq_false (by omega)]; rfl]
  rfl

/-- Each such token names a row. -/
theorem named_eq (h : ∀ i, (X i).toNat < 100000) : named X = fun _ => 1#1 := by
  funext j
  refine Host.reduce_andi_one _ _ _ _ j rfl fun i => ?_
  unfold starts
  rw [wrapped_eq X h]
  pointwise
  have hi := h (ix2 (i 0) (i 1))
  simp only [IntOp.cmpi, WordArith.andi_ofBool, WordArith.ofBool_eq_one_iff, Bool.and_eq_true, BitVec.sle_eq_decide, decide_eq_true_eq,
    BitVec.toInt_eq_toNat_cond, BitVec.toNat_ofNat, Nat.reducePow, Nat.reduceMod]
  omega

/-- The gather at an index: the row that the start index names, where it names one. -/
theorem gather_apply (I : IVec S4096x200x1 32) (r : Fin 4096) (n : Fin 200) (l : Fin 128) (h : (I (ix3 r n 0)).toNat < 100000) :
    Host.gather gather_S100000x128_S4096x200x1_S4096x200x128_2_0_n_n_0_2_1128 E I (ix3 r n l) = E (ix2 ⟨(I (ix3 r n 0)).toNat, h⟩ l) := by
  unfold Host.gather
  refine congrArg E (funext fun a => Fin.ext ?_)
  have hs : ∀ c, gather_S100000x128_S4096x200x1_S4096x200x128_2_0_n_n_0_2_1128.siIdx (ix3 r n l) c = ix3 r n (0 : Fin 1) := by
    intro c
    funext b
    match b with
    | ⟨0, _⟩ => rfl
    | ⟨1, _⟩ => rfl
    | ⟨2, _⟩ => exact Subsingleton.elim (α := Fin 1) _ _
  match a with
  | ⟨0, _⟩ =>
    show min (I (gather_S100000x128_S4096x200x1_S4096x200x128_2_0_n_n_0_2_1128.siIdx (ix3 r n l) _)).toInt.toNat (100000 - 1)
      = (I (ix3 r n 0)).toNat
    rw [hs, BitVec.toInt_eq_toNat_cond]
    split <;> omega
  | ⟨1, _⟩ =>
    show 0 + 0 + l.val = l.val
    omega

/-- The take at an index: the token's row of the table. -/
theorem taken_apply (h : ∀ i, (X i).toNat < 100000) (r : Fin 4096) (n : Fin 200) (l : Fin 128) :
    taken X E (ix3 r n l) = E (ix2 ⟨(X (ix2 r n)).toNat, h _⟩ l) := by
  unfold taken
  rw [named_eq X h]
  show Host.gather gather_S100000x128_S4096x200x1_S4096x200x128_2_0_n_n_0_2_1128 E (starts X) (ix3 r n l) = _
  have e : starts X (ix3 r n 0) = X (ix2 r n) := by
    unfold starts
    rw [wrapped_eq X h]
    pointwise
  rw [gather_apply E (starts X) r n l (e ▸ h _)]
  simp only [e]

/-! ## The mean and the two layers -/

section Layers
variable (z : FVec Ideal S4096x200x128 .f32) (a : FVec Ideal S128x128 .f32) (b : FVec Ideal S128 .f32)
  (c : FVec Ideal S128x100 .f32) (d : FVec Ideal S100 .f32)

/-- The mean of each row's embeddings. -/
def mean : FVec Ideal S4096x128 .f32 :=
  Host.divf (Host.reduceAdd z (constant S_ .f32 0x00000000#32) reducesTo_S4096x200x128_S4096x128_d1 h_S_)
    (broadcastInDim S4096x128 ![] bcast_S_S4096x128 (constant S_ .f32 0x43480000#32))
/-- The first layer, cut off below zero. -/
def hidden : FVec Ideal S4096x128 .f32 :=
  maximumf
    (addf (Host.dotGeneral dot_S4096x128_S128x128_S4096x128_1_0_0_1_n_n none (mean z) a)
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))
/-- The second layer, of the embeddings `z`. -/
def answer : FVec Ideal S4096x100 .f32 :=
  addf (Host.dotGeneral dot_S4096x128_S128x100_S4096x100_1_0_0_1_n_n none (hidden z a b) c)
    (broadcastInDim S4096x100 ![0, 1] bcast_S1x100_S4096x100_0_1 (broadcastInDim S1x100 ![1] bcast_S100_S1x100_1 d))

/-- The divisor's word is two hundred. -/
theorem ofBits_two_hundred : Ideal.ofBits .f32 0x43480000#32 = ((200 : ℝ) : EReal) := by
  simp [Ideal.ofBits, Ideal.ieee, -EReal.coe_mul]; norm_num

/-- A quotient by two hundred is the product with its inverse, at the infinities too. -/
theorem div_two_hundred (x : EReal) : Ideal.div x (Ideal.ofBits .f32 0x43480000#32) = x * ((200⁻¹ : ℝ) : EReal) := by
  rw [ofBits_two_hundred, Ideal.div, if_neg (by norm_num), EReal.coe_inv]

/-- The reference's result at a row and a class. -/
theorem answer_apply (r : Fin 4096) (k : Fin 100) :
    answer z a b c d (ix2 r k)
      = (∑ j : Fin 128, max ((∑ l : Fin 128, (∑ n : Fin 200, z (ix3 r n l)) * ((200⁻¹ : ℝ) : EReal) * a (ix2 l j)) + b (ix1 j)) 0
          * c (ix2 j k)) + d (ix1 k) := by
  pointwise [answer, hidden, mean]
  simp only [div_two_hundred]

end Layers

end Cert.Proof.Plain

end
-- ==== Proof.Value.lean ====
/-
The program's result at the reals and the infinities is the reference's: the pooled sums are sums over a row's tokens, the product
with the named constant is the quotient by two hundred, and the two layers are the same sums of products.
-/
module

public import proofs.«01_k».proof.Proof.Frames
public import proofs.«01_k».proof.Proof.Reference
public import Idealize.ShloMosaic.Lib.IdealHost
public import Idealize.ShloMosaic.Lib.Pipeline.Value

@[expose] public section

noncomputable section

namespace Cert.Proof.Pool

open Cert.KernelIdeal Cert.KernelIdeal.Gen
open Idealize.ShloMosaic Idealize.SL.Sem

variable (x : S4096x200.Idx → BitVec 32) (e : FVec Ideal S100000x128 .f32) (a : FVec Ideal S128x128 .f32) (b : FVec Ideal S128 .f32)
  (c : FVec Ideal S128x100 .f32) (d : FVec Ideal S100 .f32)

/-! ## The pooled sums -/

/-- The sum taken token by token is the sum over the tokens. -/
theorem accum_eq (X : S4096x2x100.Idx → BitVec 32) (r l n : ℕ) :
    accum (F := Ideal) X e r l n = ∑ k ∈ Finset.range n, embAt e (tokAt X r k) l := by
  induction n with
  | zero => exact Ideal.ofBits_zero_f32
  | succ n ih =>
    rw [Finset.sum_range_succ, ← ih]
    rfl

/-- A token in its row's two halves is the token in the row. -/
theorem tokAt_halves (r : Fin 4096) (n : Fin 200) :
    tokAt (shapeCast S4096x2x100 x shapeCasts_S4096x200_S4096x2x100) r n = (x (ix2 r n)).toNat := by
  unfold tokAt
  refine congrArg BitVec.toNat (shapeCast_apply _ _ _ _ ?_)
  rw [Shape.rowMajor_val_two, Shape.rowMajor_val_three]
  show r.val * 200 + n.val = (r.val % 4096 * 2 + n.val / 100 % 2) * 100 + n.val % 100
  omega

/-- The pooled sum of a row's lane is the sum of the reference's rows over its tokens. -/
theorem pooled_apply (h : ∀ i, (x i).toNat < 100000) (r : Fin 4096) (l : Fin 128) :
    pooled (F := Ideal) (shapeCast S4096x2x100 x shapeCasts_S4096x200_S4096x2x100) e (ix2 r l)
      = ∑ n : Fin 200, Plain.taken x e (ix3 r n l) := by
  show accum (F := Ideal) _ e r.val l.val 200 = _
  rw [accum_eq, Finset.sum_range]
  refine Finset.sum_congr rfl fun n _ => ?_
  rw [tokAt_halves, Plain.taken_apply x e h]
  refine congrArg e (funext fun q => ?_)
  match q with
  | ⟨0, _⟩ => exact Fin.ext (Nat.mod_eq_of_lt (h (ix2 r n)))
  | ⟨1, _⟩ => exact Fin.ext (Nat.mod_eq_of_lt l.isLt)

/-! ## The two layers -/

/-- The TensorCore's two layers, turned to rows by classes, at a row and a class. -/
theorem layers_apply (p : FVec Ideal S4096x128 .f32) (r : Fin 4096) (k : Fin 100) :
    transpose S4096x100 [1, 0] (k1_pay1 (F := Ideal) p a b c d) transposes_S100x4096_S4096x100_1_0 (ix2 r k)
      = (∑ j : Fin 128, max ((∑ l : Fin 128, p (ix2 r l) * ((200⁻¹ : ℝ) : EReal) * a (ix2 l j)) + b (ix1 j)) 0 * c (ix2 j k))
        + d (ix1 k) := by
  pointwise [k1_pay1]
  rw [show Named.named (F := Ideal) κ "inv_l" (φ := .f32) 1000593162#32 = ((200⁻¹ : ℝ) : EReal) from
    IdealRules.named_const.ideal_named_scalar _ _ _ _ rfl]
  exact congrArg (· + d (ix1 k)) (Finset.sum_congr rfl fun j _ => mul_comm _ _)

/-- The program's result is the reference's, as functions of the arguments. -/
theorem result_eq (h : ∀ i, (x i).toNat < 100000) :
    transpose S4096x100 [1, 0]
        (k1_pay1 (F := Ideal) (pooled (shapeCast S4096x2x100 x shapeCasts_S4096x200_S4096x2x100) e) a b c d)
        transposes_S100x4096_S4096x100_1_0
      = Plain.answer (Plain.taken x e) a b c d := by
  funext i
  obtain ⟨r, k, rfl⟩ : ∃ (r : Fin 4096) (k : Fin 100), i = ix2 r k :=
    ⟨i 0, i 1, funext fun q => match q with | ⟨0, _⟩ => rfl | ⟨1, _⟩ => rfl⟩
  refine (layers_apply _ _ _ _ _ r k).trans (Eq.trans ?_ (Plain.answer_apply (Plain.taken x e) a b c d r k).symm)
  simp only [pooled_apply x e h]

/-- From memories that agree on the arguments the idealized program and the reference end with equal results. -/
theorem value : Cert.algebraic_KernelIdeal_ReferenceIdeal := fun m ρ m' ρ' hpre hargs =>
  ⟨fun q => result m q,
    (θ_run Cert.KernelIdeal.defs _ _).mono (fun _ h q => ⟨(h.1 q).2, (h.1 q).1⟩) (run_main m ρ (inVocab m hpre)),
    (θ_run (Cert.ReferenceIdeal.defs (F := Ideal)) _ _).mono
      (fun r h q => ⟨by
        obtain ⟨h0, h1, h2, h3, h4, h5⟩ := hargs q
        refine (h q).1.trans ?_
        rw [h0, h1, h2, h3, h4, h5]
        exact (result_eq _ _ _ _ _ _ (tok_lt (hpre q))).symm, (h q).2⟩)
      (Cert.ReferenceIdeal.Value.run (F := Ideal) m' ρ')⟩

end Cert.Proof.Pool

end
-- ==== Proof.lean ====
/-
The certificate: its claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Frames
public import proofs.«01_k».proof.Proof.Value
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_vocab.Gen.facts,
    Machine.frame, Pool.frame_ideal, Machine.frame_reference, Machine.frame_reference_pre,
    Machine.named_inv, Pool.value⟩

end Cert.Proof

end
